-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_indices_not_negative [hPre_indices_not_negative : Cert.Pre_indices_not_negative.Facts] (m : (ℓ : Loc Cert.KernelIdeal.nD Cert.KernelIdeal.τ Cert.KernelIdeal.sig) → Buf (Elt Ideal) ℓ) : Prop :=
  ∀ c : Dev Cert.KernelIdeal.nD,
    (Cert.Pre_indices_not_negative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_not_negative [hPre_indices_not_negative : Cert.Pre_indices_not_negative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_not_negative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_indices_not_negative [hKernelIdeal : Cert.KernelIdeal.Facts] [hPre_indices_not_negative : Cert.Pre_indices_not_negative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_indices_not_negative m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_indices_not_negative [hReferenceIdeal : Cert.ReferenceIdeal.Facts] [hPre_indices_not_negative : Cert.Pre_indices_not_negative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_not_negative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_indices_not_negative [hKernelIdeal : Cert.KernelIdeal.Facts] [hReferenceIdeal : Cert.ReferenceIdeal.Facts] [hPre_indices_not_negative : Cert.Pre_indices_not_negative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_indices_not_negative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_indices_not_negative : Cert.Pre_indices_not_negative.Facts),
    quiescent_Kernel (hKernel := hKernel)
    ∧ quiescent_KernelIdeal (hKernelIdeal := hKernelIdeal)
    ∧ quiescent_KernelIdeal_pre_indices_not_negative (hKernelIdeal := hKernelIdeal) (hPre_indices_not_negative := hPre_indices_not_negative)
    ∧ quiescent_ReferenceIdeal (hReferenceIdeal := hReferenceIdeal)
    ∧ quiescent_ReferenceIdeal_pre_indices_not_negative (hReferenceIdeal := hReferenceIdeal) (hPre_indices_not_negative := hPre_indices_not_negative)
    ∧ preserves_Kernel_KernelIdeal
    ∧ algebraic_KernelIdeal_ReferenceIdeal_pre_indices_not_negative (hKernelIdeal := hKernelIdeal) (hReferenceIdeal := hReferenceIdeal) (hPre_indices_not_negative := hPre_indices_not_negative)
-- ==== Pre_indices_not_negative.lean ====
abbrev S128x100000 : Shape := ⟨2, ![128, 100000]⟩
abbrev S16384 : Shape := ⟨1, ![16384]⟩
abbrev S128x16384 : Shape := ⟨2, ![128, 16384]⟩
abbrev S_ : Shape := ⟨0, ![]⟩

class Facts : Prop where
  bcast_S_S16384 : S_.BroadcastsInDim S16384 (![] : Fin 0 → Fin S16384.rank)

variable [Facts]

def fn {F : FTy → Type} [FloatOps F] (main_arg0 : FVec F S128x100000 .f32) (main_arg1 : IVec S16384 32) (main_arg2 : FVec F S128x16384 .f32) : IVec S16384 1 :=
  let main_c : IVec S_ 32 := constantI S_ 32 0#32
  let main_v0 : IVec S16384 32 := broadcastInDim S16384 ![] bcast_S_S16384 main_c
  let main_v1 : IVec S16384 1 := cmpi .sge main_arg1 main_v0
  main_v1
-- ==== Kernel.lean ====
abbrev S128x100000 : Shape := ⟨2, ![128, 100000]⟩
abbrev S16384 : Shape := ⟨1, ![16384]⟩
abbrev S128x16384 : Shape := ⟨2, ![128, 16384]⟩
abbrev S2x128x50048 : Shape := ⟨3, ![2, 128, 50048]⟩
abbrev S50048 : Shape := ⟨1, ![50048]⟩
abbrev S8192 : Shape := ⟨1, ![8192]⟩
abbrev S2 : Shape := ⟨1, ![2]⟩
abbrev S_ : Shape := ⟨0, ![]⟩
abbrev S16 : Shape := ⟨1, ![16]⟩
abbrev S1x8192 : Shape := ⟨2, ![1, 8192]⟩
abbrev S1x1x50048 : Shape := ⟨3, ![1, 1, 50048]⟩
abbrev S1 : Shape := ⟨1, ![1]⟩
abbrev S128x2176 : Shape := ⟨2, ![128, 2176]⟩
abbrev S1x128x2176 : Shape := ⟨3, ![1, 128, 2176]⟩

abbrev nBuf : Table → Nat
  | .hbm => 5
  | .local .tc .vmem => 6
  | .local .scVector .vmem => 4
  | _ => 0

abbrev bufTy : (tb : Table) → Fin (nBuf tb) → BufTy
  | .hbm, ⟨0, _⟩ => ⟨S128x100000, .f32⟩
  | .hbm, ⟨1, _⟩ => ⟨S16384, .i32⟩
  | .hbm, ⟨2, _⟩ => ⟨S128x16384, .f32⟩
  | .hbm, ⟨3, _⟩ => ⟨S2x128x50048, .f32⟩
  | .hbm, ⟨4, _⟩ => ⟨S128x100000, .f32⟩
  | .local .tc .vmem, ⟨0, _⟩ => ⟨S128x2176, .f32⟩
  | .local .tc .vmem, ⟨1, _⟩ => ⟨S128x2176, .f32⟩
  | .local .tc .vmem, ⟨2, _⟩ => ⟨S1x128x2176, .f32⟩
  | .local .tc .vmem, ⟨3, _⟩ => ⟨S1x128x2176, .f32⟩
  | .local .tc .vmem, ⟨4, _⟩ => ⟨S128x2176, .f32⟩
  | .local .tc .vmem, ⟨5, _⟩ => ⟨S128x2176, .f32⟩
  | .local .scVector .vmem, ⟨0, _⟩ => ⟨S16384, .i32⟩
  | .local .scVector .vmem, ⟨1, _⟩ => ⟨S50048, .f32⟩
  | .local .scVector .vmem, ⟨2, _⟩ => ⟨S50048, .f32⟩
  | .local .scVector .vmem, ⟨3, _⟩ => ⟨S8192, .f32⟩
  | _, _ => ⟨S128x100000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 25 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => true
  | ⟨20, _⟩ => true
  | ⟨21, _⟩ => true
  | ⟨22, _⟩ => true
  | ⟨23, _⟩ => true
  | ⟨24, _⟩ => true
  | _ => false

abbrev sig : RefSig :=
  ofTables nBuf rfl bufTy 4 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_arg1_scv : Ref sig .scVector := ⟨.hbm, 1, rfl⟩
abbrev main_arg2_scv : Ref sig .scVector := ⟨.hbm, 2, rfl⟩
abbrev main_v0_scv : Ref sig .scVector := ⟨.hbm, 3, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c391_i32 : BitVec 32 := 391#32
  let v5 : BitVec 32 := Scalar.addi c0_i32_1 c391_i32
  let c1_i32 : BitVec 32 := 1#32
  ⟨c0_i32_1, v5, c1_i32⟩
def k0_off1 (k0_t1 : Fin k0_t1_loop.trips) (c0_i32_194 : BitVec 32) : Fin 1 → Nat :=
  let c0_i32_1 : BitVec 32 := 0#32
  let c1_i32 : BitVec 32 := 1#32
  let arg10 : BitVec 32 := Scf.iv c0_i32_1 c1_i32 k0_t1
  let c8_i32 : BitVec 32 := 8#32
  let v163 : BitVec 32 := Scalar.muli arg10 c8_i32
  let v164 : BitVec 32 := Scalar.addi v163 c0_i32_194
  let c16_i32 : BitVec 32 := 16#32
  let v165 : BitVec 32 := Scalar.muli v164 c16_i32
  let v166 : Index := Scalar.indexCast v165
  ![v166.toNat]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v3 : BitVec 32 := Scalar.muli v1 c4_i32
  let v4 : BitVec 32 := Scalar.addi v3 c0_i32
  let c0_i32_194_r1 : BitVec 32 := 0#32
  ![v4.toNat, 0]
@[reducible] def k0_t2_loop : Scf.Loop 32 :=
  let c0_i32_4 : BitVec 32 := 0#32
  let c512_i32 : BitVec 32 := 512#32
  let v7 : BitVec 32 := Scalar.addi c0_i32_4 c512_i32
  let c1_i32_5 : BitVec 32 := 1#32
  ⟨c0_i32_4, v7, c1_i32_5⟩
def k0_off3 (k0_t2 : Fin k0_t2_loop.trips) : Fin 1 → Nat :=
  let c0_i32_194 : BitVec 32 := 0#32
  let c0_i32_4 : BitVec 32 := 0#32
  let c1_i32_5 : BitVec 32 := 1#32
  let arg10 : BitVec 32 := Scf.iv c0_i32_4 c1_i32_5 k0_t2
  let c16_i32 : BitVec 32 := 16#32
  let v163 : BitVec 32 := Scalar.muli arg10 c16_i32
  let v164 : BitVec 32 := Scalar.addi c0_i32_194 v163
  let v165 : Index := Scalar.indexCast v164
  ![v165.toNat]
def k0_off4 (k0_t2 : Fin k0_t2_loop.trips) : Fin 1 → Nat :=
  let c0_i32_4 : BitVec 32 := 0#32
  let c1_i32_5 : BitVec 32 := 1#32
  let arg10 : BitVec 32 := Scf.iv c0_i32_4 c1_i32_5 k0_t2
  let c16_i32_195 : BitVec 32 := 16#32
  let v167 : BitVec 32 := Scalar.muli arg10 c16_i32_195
  let v168 : Index := Scalar.indexCast v167
  ![v168.toNat]

def k0_chk1 (v178 : IVec S16 32) : Prop :=
  (∀ a x, ((![v178] : Fin 1 → IVec S16 32) a x).toNat < S50048.size a)
theorem k0_idx1_inb : ∀ (v178 : IVec S16 32) (k0_hw1 : k0_chk1 v178), ∀ a x, ((![v178] : Fin 1 → IVec S16 32) a x).toNat < S50048.size a := fun v178 k0_hw1 => k0_hw1
def k0_off5 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v3 : BitVec 32 := Scalar.muli v1 c4_i32
  let v4 : BitVec 32 := Scalar.addi v3 c0_i32
  let c8192_i32_r2 : BitVec 32 := 8192#32
  ![v4.toNat, 8192]
@[reducible] def k0_t3_loop : Scf.Loop 32 :=
  let c0_i32_8 : BitVec 32 := 0#32
  let c512_i32_9 : BitVec 32 := 512#32
  let v9 : BitVec 32 := Scalar.addi c0_i32_8 c512_i32_9
  let c1_i32_10 : BitVec 32 := 1#32
  ⟨c0_i32_8, v9, c1_i32_10⟩
def k0_off6 (k0_t3 : Fin k0_t3_loop.trips) : Fin 1 → Nat :=
  let c8192_i32 : BitVec 32 := 8192#32
  let c0_i32_8 : BitVec 32 := 0#32
  let c1_i32_10 : BitVec 32 := 1#32
  let arg10 : BitVec 32 := Scf.iv c0_i32_8 c1_i32_10 k0_t3
  let c16_i32 : BitVec 32 := 16#32
  let v163 : BitVec 32 := Scalar.muli arg10 c16_i32
  let v164 : BitVec 32 := Scalar.addi c8192_i32 v163
  let v165 : Index := Scalar.indexCast v164
  ![v165.toNat]
def k0_off7 (k0_t3 : Fin k0_t3_loop.trips) : Fin 1 → Nat :=
  let c0_i32_8 : BitVec 32 := 0#32
  let c1_i32_10 : BitVec 32 := 1#32
  let arg10 : BitVec 32 := Scf.iv c0_i32_8 c1_i32_10 k0_t3
  let c16_i32_194 : BitVec 32 := 16#32
  let v167 : BitVec 32 := Scalar.muli arg10 c16_i32_194
  let v168 : Index := Scalar.indexCast v167
  ![v168.toNat]

def k0_chk2 (v178 : IVec S16 32) : Prop :=
  (∀ a x, ((![v178] : Fin 1 → IVec S16 32) a x).toNat < S50048.size a)
theorem k0_idx2_inb : ∀ (v178 : IVec S16 32) (k0_hw2 : k0_chk2 v178), ∀ a x, ((![v178] : Fin 1 → IVec S16 32) a x).toNat < S50048.size a := fun v178 k0_hw2 => k0_hw2
def k0_off8 (i : grid0.Coords) (c0_i32 : BitVec 32) : Fin 3 → Nat :=
  let c0_i32_12 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v3 : BitVec 32 := Scalar.muli v1 c4_i32
  let v4 : BitVec 32 := Scalar.addi v3 c0_i32
  let c0_i32_14 : BitVec 32 := 0#32
  ![0, v4.toNat, 0]
@[reducible] def k0_t4_loop : Scf.Loop 32 :=
  let c0_i32_19 : BitVec 32 := 0#32
  let c391_i32_20 : BitVec 32 := 391#32
  let v19 : BitVec 32 := Scalar.addi c0_i32_19 c391_i32_20
  let c1_i32_21 : BitVec 32 := 1#32
  ⟨c0_i32_19, v19, c1_i32_21⟩
def k0_off9 (k0_t4 : Fin k0_t4_loop.trips) (c0_i32_194 : BitVec 32) : Fin 1 → Nat :=
  let c0_i32_19 : BitVec 32 := 0#32
  let c1_i32_21 : BitVec 32 := 1#32
  let arg10 : BitVec 32 := Scf.iv c0_i32_19 c1_i32_21 k0_t4
  let c8_i32 : BitVec 32 := 8#32
  let v163 : BitVec 32 := Scalar.muli arg10 c8_i32
  let v164 : BitVec 32 := Scalar.addi v163 c0_i32_194
  let c16_i32 : BitVec 32 := 16#32
  let v165 : BitVec 32 := Scalar.muli v164 c16_i32
  let v166 : Index := Scalar.indexCast v165
  ![v166.toNat]
@[reducible] def k0_t5_loop : Scf.Loop 32 :=
  let c0_i32_24 : BitVec 32 := 0#32
  let c512_i32_25 : BitVec 32 := 512#32
  let v21 : BitVec 32 := Scalar.addi c0_i32_24 c512_i32_25
  let c1_i32_26 : BitVec 32 := 1#32
  ⟨c0_i32_24, v21, c1_i32_26⟩
def k0_off10 (k0_t5 : Fin k0_t5_loop.trips) : Fin 1 → Nat :=
  let c0_i32_194 : BitVec 32 := 0#32
  let c0_i32_24 : BitVec 32 := 0#32
  let c1_i32_26 : BitVec 32 := 1#32
  let arg10 : BitVec 32 := Scf.iv c0_i32_24 c1_i32_26 k0_t5
  let c16_i32 : BitVec 32 := 16#32
  let v163 : BitVec 32 := Scalar.muli arg10 c16_i32
  let v164 : BitVec 32 := Scalar.addi c0_i32_194 v163
  let v165 : Index := Scalar.indexCast v164
  ![v165.toNat]
def k0_off11 (k0_t5 : Fin k0_t5_loop.trips) : Fin 1 → Nat :=
  let c0_i32_24 : BitVec 32 := 0#32
  let c1_i32_26 : BitVec 32 := 1#32
  let arg10 : BitVec 32 := Scf.iv c0_i32_24 c1_i32_26 k0_t5
  let c16_i32_195 : BitVec 32 := 16#32
  let v167 : BitVec 32 := Scalar.muli arg10 c16_i32_195
  let v168 : Index := Scalar.indexCast v167
  ![v168.toNat]

def k0_chk3 (v178 : IVec S16 32) : Prop :=
  (∀ a x, ((![v178] : Fin 1 → IVec S16 32) a x).toNat < S50048.size a)
theorem k0_idx3_inb : ∀ (v178 : IVec S16 32) (k0_hw3 : k0_chk3 v178), ∀ a x, ((![v178] : Fin 1 → IVec S16 32) a x).toNat < S50048.size a := fun v178 k0_hw3 => k0_hw3
@[reducible] def k0_t6_loop : Scf.Loop 32 :=
  let c0_i32_29 : BitVec 32 := 0#32
  let c512_i32_30 : BitVec 32 := 512#32
  let v23 : BitVec 32 := Scalar.addi c0_i32_29 c512_i32_30
  let c1_i32_31 : BitVec 32 := 1#32
  ⟨c0_i32_29, v23, c1_i32_31⟩
def k0_off12 (k0_t6 : Fin k0_t6_loop.trips) : Fin 1 → Nat :=
  let c8192_i32 : BitVec 32 := 8192#32
  let c0_i32_29 : BitVec 32 := 0#32
  let c1_i32_31 : BitVec 32 := 1#32
  let arg10 : BitVec 32 := Scf.iv c0_i32_29 c1_i32_31 k0_t6
  let c16_i32 : BitVec 32 := 16#32
  let v163 : BitVec 32 := Scalar.muli arg10 c16_i32
  let v164 : BitVec 32 := Scalar.addi c8192_i32 v163
  let v165 : Index := Scalar.indexCast v164
  ![v165.toNat]
def k0_off13 (k0_t6 : Fin k0_t6_loop.trips) : Fin 1 → Nat :=
  let c0_i32_29 : BitVec 32 := 0#32
  let c1_i32_31 : BitVec 32 := 1#32
  let arg10 : BitVec 32 := Scf.iv c0_i32_29 c1_i32_31 k0_t6
  let c16_i32_194 : BitVec 32 := 16#32
  let v167 : BitVec 32 := Scalar.muli arg10 c16_i32_194
  let v168 : Index := Scalar.indexCast v167
  ![v168.toNat]

def k0_chk4 (v178 : IVec S16 32) : Prop :=
  (∀ a x, ((![v178] : Fin 1 → IVec S16 32) a x).toNat < S50048.size a)
theorem k0_idx4_inb : ∀ (v178 : IVec S16 32) (k0_hw4 : k0_chk4 v178), ∀ a x, ((![v178] : Fin 1 → IVec S16 32) a x).toNat < S50048.size a := fun v178 k0_hw4 => k0_hw4
@[reducible] def k0_t7_loop : Scf.Loop 32 :=
  let c0_i32_44 : BitVec 32 := 0#32
  let c391_i32_45 : BitVec 32 := 391#32
  let v39 : BitVec 32 := Scalar.addi c0_i32_44 c391_i32_45
  let c1_i32_46 : BitVec 32 := 1#32
  ⟨c0_i32_44, v39, c1_i32_46⟩
def k0_off14 (k0_t7 : Fin k0_t7_loop.trips) (c0_i32_194 : BitVec 32) : Fin 1 → Nat :=
  let c0_i32_44 : BitVec 32 := 0#32
  let c1_i32_46 : BitVec 32 := 1#32
  let arg10 : BitVec 32 := Scf.iv c0_i32_44 c1_i32_46 k0_t7
  let c8_i32 : BitVec 32 := 8#32
  let v163 : BitVec 32 := Scalar.muli arg10 c8_i32
  let v164 : BitVec 32 := Scalar.addi v163 c0_i32_194
  let c16_i32 : BitVec 32 := 16#32
  let v165 : BitVec 32 := Scalar.muli v164 c16_i32
  let v166 : Index := Scalar.indexCast v165
  ![v166.toNat]
@[reducible] def k0_t8_loop : Scf.Loop 32 :=
  let c0_i32_49 : BitVec 32 := 0#32
  let c512_i32_50 : BitVec 32 := 512#32
  let v41 : BitVec 32 := Scalar.addi c0_i32_49 c512_i32_50
  let c1_i32_51 : BitVec 32 := 1#32
  ⟨c0_i32_49, v41, c1_i32_51⟩
def k0_off15 (k0_t8 : Fin k0_t8_loop.trips) : Fin 1 → Nat :=
  let c0_i32_194 : BitVec 32 := 0#32
  let c0_i32_49 : BitVec 32 := 0#32
  let c1_i32_51 : BitVec 32 := 1#32
  let arg10 : BitVec 32 := Scf.iv c0_i32_49 c1_i32_51 k0_t8
  let c16_i32 : BitVec 32 := 16#32
  let v163 : BitVec 32 := Scalar.muli arg10 c16_i32
  let v164 : BitVec 32 := Scalar.addi c0_i32_194 v163
  let v165 : Index := Scalar.indexCast v164
  ![v165.toNat]
def k0_off16 (k0_t8 : Fin k0_t8_loop.trips) : Fin 1 → Nat :=
  let c0_i32_49 : BitVec 32 := 0#32
  let c1_i32_51 : BitVec 32 := 1#32
  let arg10 : BitVec 32 := Scf.iv c0_i32_49 c1_i32_51 k0_t8
  let c16_i32_195 : BitVec 32 := 16#32
  let v167 : BitVec 32 := Scalar.muli arg10 c16_i32_195
  let v168 : Index := Scalar.indexCast v167
  ![v168.toNat]

def k0_chk5 (v178 : IVec S16 32) : Prop :=
  (∀ a x, ((![v178] : Fin 1 → IVec S16 32) a x).toNat < S50048.size a)
theorem k0_idx5_inb : ∀ (v178 : IVec S16 32) (k0_hw5 : k0_chk5 v178), ∀ a x, ((![v178] : Fin 1 → IVec S16 32) a x).toNat < S50048.size a := fun v178 k0_hw5 => k0_hw5
@[reducible] def k0_t9_loop : Scf.Loop 32 :=
  let c0_i32_54 : BitVec 32 := 0#32
  let c512_i32_55 : BitVec 32 := 512#32
  let v43 : BitVec 32 := Scalar.addi c0_i32_54 c512_i32_55
  let c1_i32_56 : BitVec 32 := 1#32
  ⟨c0_i32_54, v43, c1_i32_56⟩
def k0_off17 (k0_t9 : Fin k0_t9_loop.trips) : Fin 1 → Nat :=
  let c8192_i32 : BitVec 32 := 8192#32
  let c0_i32_54 : BitVec 32 := 0#32
  let c1_i32_56 : BitVec 32 := 1#32
  let arg10 : BitVec 32 := Scf.iv c0_i32_54 c1_i32_56 k0_t9
  let c16_i32 : BitVec 32 := 16#32
  let v163 : BitVec 32 := Scalar.muli arg10 c16_i32
  let v164 : BitVec 32 := Scalar.addi c8192_i32 v163
  let v165 : Index := Scalar.indexCast v164
  ![v165.toNat]
def k0_off18 (k0_t9 : Fin k0_t9_loop.trips) : Fin 1 → Nat :=
  let c0_i32_54 : BitVec 32 := 0#32
  let c1_i32_56 : BitVec 32 := 1#32
  let arg10 : BitVec 32 := Scf.iv c0_i32_54 c1_i32_56 k0_t9
  let c16_i32_194 : BitVec 32 := 16#32
  let v167 : BitVec 32 := Scalar.muli arg10 c16_i32_194
  let v168 : Index := Scalar.indexCast v167
  ![v168.toNat]

def k0_chk6 (v178 : IVec S16 32) : Prop :=
  (∀ a x, ((![v178] : Fin 1 → IVec S16 32) a x).toNat < S50048.size a)
theorem k0_idx6_inb : ∀ (v178 : IVec S16 32) (k0_hw6 : k0_chk6 v178), ∀ a x, ((![v178] : Fin 1 → IVec S16 32) a x).toNat < S50048.size a := fun v178 k0_hw6 => k0_hw6
@[reducible] def k0_t10_loop : Scf.Loop 32 :=
  let c0_i32_68 : BitVec 32 := 0#32
  let c391_i32_69 : BitVec 32 := 391#32
  let v59 : BitVec 32 := Scalar.addi c0_i32_68 c391_i32_69
  let c1_i32_70 : BitVec 32 := 1#32
  ⟨c0_i32_68, v59, c1_i32_70⟩
def k0_off19 (k0_t10 : Fin k0_t10_loop.trips) (c0_i32_194 : BitVec 32) : Fin 1 → Nat :=
  let c0_i32_68 : BitVec 32 := 0#32
  let c1_i32_70 : BitVec 32 := 1#32
  let arg10 : BitVec 32 := Scf.iv c0_i32_68 c1_i32_70 k0_t10
  let c8_i32 : BitVec 32 := 8#32
  let v163 : BitVec 32 := Scalar.muli arg10 c8_i32
  let v164 : BitVec 32 := Scalar.addi v163 c0_i32_194
  let c16_i32 : BitVec 32 := 16#32
  let v165 : BitVec 32 := Scalar.muli v164 c16_i32
  let v166 : Index := Scalar.indexCast v165
  ![v166.toNat]
@[reducible] def k0_t11_loop : Scf.Loop 32 :=
  let c0_i32_73 : BitVec 32 := 0#32
  let c512_i32_74 : BitVec 32 := 512#32
  let v61 : BitVec 32 := Scalar.addi c0_i32_73 c512_i32_74
  let c1_i32_75 : BitVec 32 := 1#32
  ⟨c0_i32_73, v61, c1_i32_75⟩
def k0_off20 (k0_t11 : Fin k0_t11_loop.trips) : Fin 1 → Nat :=
  let c0_i32_194 : BitVec 32 := 0#32
  let c0_i32_73 : BitVec 32 := 0#32
  let c1_i32_75 : BitVec 32 := 1#32
  let arg10 : BitVec 32 := Scf.iv c0_i32_73 c1_i32_75 k0_t11
  let c16_i32 : BitVec 32 := 16#32
  let v163 : BitVec 32 := Scalar.muli arg10 c16_i32
  let v164 : BitVec 32 := Scalar.addi c0_i32_194 v163
  let v165 : Index := Scalar.indexCast v164
  ![v165.toNat]
def k0_off21 (k0_t11 : Fin k0_t11_loop.trips) : Fin 1 → Nat :=
  let c0_i32_73 : BitVec 32 := 0#32
  let c1_i32_75 : BitVec 32 := 1#32
  let arg10 : BitVec 32 := Scf.iv c0_i32_73 c1_i32_75 k0_t11
  let c16_i32_195 : BitVec 32 := 16#32
  let v167 : BitVec 32 := Scalar.muli arg10 c16_i32_195
  let v168 : Index := Scalar.indexCast v167
  ![v168.toNat]

def k0_chk7 (v178 : IVec S16 32) : Prop :=
  (∀ a x, ((![v178] : Fin 1 → IVec S16 32) a x).toNat < S50048.size a)
theorem k0_idx7_inb : ∀ (v178 : IVec S16 32) (k0_hw7 : k0_chk7 v178), ∀ a x, ((![v178] : Fin 1 → IVec S16 32) a x).toNat < S50048.size a := fun v178 k0_hw7 => k0_hw7
@[reducible] def k0_t12_loop : Scf.Loop 32 :=
  let c0_i32_78 : BitVec 32 := 0#32
  let c512_i32_79 : BitVec 32 := 512#32
  let v63 : BitVec 32 := Scalar.addi c0_i32_78 c512_i32_79
  let c1_i32_80 : BitVec 32 := 1#32
  ⟨c0_i32_78, v63, c1_i32_80⟩
def k0_off22 (k0_t12 : Fin k0_t12_loop.trips) : Fin 1 → Nat :=
  let c8192_i32 : BitVec 32 := 8192#32
  let c0_i32_78 : BitVec 32 := 0#32
  let c1_i32_80 : BitVec 32 := 1#32
  let arg10 : BitVec 32 := Scf.iv c0_i32_78 c1_i32_80 k0_t12
  let c16_i32 : BitVec 32 := 16#32
  let v163 : BitVec 32 := Scalar.muli arg10 c16_i32
  let v164 : BitVec 32 := Scalar.addi c8192_i32 v163
  let v165 : Index := Scalar.indexCast v164
  ![v165.toNat]
def k0_off23 (k0_t12 : Fin k0_t12_loop.trips) : Fin 1 → Nat :=
  let c0_i32_78 : BitVec 32 := 0#32
  let c1_i32_80 : BitVec 32 := 1#32
  let arg10 : BitVec 32 := Scf.iv c0_i32_78 c1_i32_80 k0_t12
  let c16_i32_194 : BitVec 32 := 16#32
  let v167 : BitVec 32 := Scalar.muli arg10 c16_i32_194
  let v168 : Index := Scalar.indexCast v167
  ![v168.toNat]

def k0_chk8 (v178 : IVec S16 32) : Prop :=
  (∀ a x, ((![v178] : Fin 1 → IVec S16 32) a x).toNat < S50048.size a)
theorem k0_idx8_inb : ∀ (v178 : IVec S16 32) (k0_hw8 : k0_chk8 v178), ∀ a x, ((![v178] : Fin 1 → IVec S16 32) a x).toNat < S50048.size a := fun v178 k0_hw8 => k0_hw8
@[reducible] def k0_t13_loop : Scf.Loop 32 :=
  let c0_i32_93 : BitVec 32 := 0#32
  let c391_i32_94 : BitVec 32 := 391#32
  let v79 : BitVec 32 := Scalar.addi c0_i32_93 c391_i32_94
  let c1_i32_95 : BitVec 32 := 1#32
  ⟨c0_i32_93, v79, c1_i32_95⟩
def k0_off24 (k0_t13 : Fin k0_t13_loop.trips) (c0_i32_194 : BitVec 32) : Fin 1 → Nat :=
  let c0_i32_93 : BitVec 32 := 0#32
  let c1_i32_95 : BitVec 32 := 1#32
  let arg10 : BitVec 32 := Scf.iv c0_i32_93 c1_i32_95 k0_t13
  let c8_i32 : BitVec 32 := 8#32
  let v163 : BitVec 32 := Scalar.muli arg10 c8_i32
  let v164 : BitVec 32 := Scalar.addi v163 c0_i32_194
  let c16_i32 : BitVec 32 := 16#32
  let v165 : BitVec 32 := Scalar.muli v164 c16_i32
  let v166 : Index := Scalar.indexCast v165
  ![v166.toNat]
@[reducible] def k0_t14_loop : Scf.Loop 32 :=
  let c0_i32_98 : BitVec 32 := 0#32
  let c512_i32_99 : BitVec 32 := 512#32
  let v81 : BitVec 32 := Scalar.addi c0_i32_98 c512_i32_99
  let c1_i32_100 : BitVec 32 := 1#32
  ⟨c0_i32_98, v81, c1_i32_100⟩
def k0_off25 (k0_t14 : Fin k0_t14_loop.trips) : Fin 1 → Nat :=
  let c0_i32_194 : BitVec 32 := 0#32
  let c0_i32_98 : BitVec 32 := 0#32
  let c1_i32_100 : BitVec 32 := 1#32
  let arg10 : BitVec 32 := Scf.iv c0_i32_98 c1_i32_100 k0_t14
  let c16_i32 : BitVec 32 := 16#32
  let v163 : BitVec 32 := Scalar.muli arg10 c16_i32
  let v164 : BitVec 32 := Scalar.addi c0_i32_194 v163
  let v165 : Index := Scalar.indexCast v164
  ![v165.toNat]
def k0_off26 (k0_t14 : Fin k0_t14_loop.trips) : Fin 1 → Nat :=
  let c0_i32_98 : BitVec 32 := 0#32
  let c1_i32_100 : BitVec 32 := 1#32
  let arg10 : BitVec 32 := Scf.iv c0_i32_98 c1_i32_100 k0_t14
  let c16_i32_195 : BitVec 32 := 16#32
  let v167 : BitVec 32 := Scalar.muli arg10 c16_i32_195
  let v168 : Index := Scalar.indexCast v167
  ![v168.toNat]

def k0_chk9 (v178 : IVec S16 32) : Prop :=
  (∀ a x, ((![v178] : Fin 1 → IVec S16 32) a x).toNat < S50048.size a)
theorem k0_idx9_inb : ∀ (v178 : IVec S16 32) (k0_hw9 : k0_chk9 v178), ∀ a x, ((![v178] : Fin 1 → IVec S16 32) a x).toNat < S50048.size a := fun v178 k0_hw9 => k0_hw9
@[reducible] def k0_t15_loop : Scf.Loop 32 :=
  let c0_i32_103 : BitVec 32 := 0#32
  let c512_i32_104 : BitVec 32 := 512#32
  let v83 : BitVec 32 := Scalar.addi c0_i32_103 c512_i32_104
  let c1_i32_105 : BitVec 32 := 1#32
  ⟨c0_i32_103, v83, c1_i32_105⟩
def k0_off27 (k0_t15 : Fin k0_t15_loop.trips) : Fin 1 → Nat :=
  let c8192_i32 : BitVec 32 := 8192#32
  let c0_i32_103 : BitVec 32 := 0#32
  let c1_i32_105 : BitVec 32 := 1#32
  let arg10 : BitVec 32 := Scf.iv c0_i32_103 c1_i32_105 k0_t15
  let c16_i32 : BitVec 32 := 16#32
  let v163 : BitVec 32 := Scalar.muli arg10 c16_i32
  let v164 : BitVec 32 := Scalar.addi c8192_i32 v163
  let v165 : Index := Scalar.indexCast v164
  ![v165.toNat]
def k0_off28 (k0_t15 : Fin k0_t15_loop.trips) : Fin 1 → Nat :=
  let c0_i32_103 : BitVec 32 := 0#32
  let c1_i32_105 : BitVec 32 := 1#32
  let arg10 : BitVec 32 := Scf.iv c0_i32_103 c1_i32_105 k0_t15
  let c16_i32_194 : BitVec 32 := 16#32
  let v167 : BitVec 32 := Scalar.muli arg10 c16_i32_194
  let v168 : Index := Scalar.indexCast v167
  ![v168.toNat]

def k0_chk10 (v178 : IVec S16 32) : Prop :=
  (∀ a x, ((![v178] : Fin 1 → IVec S16 32) a x).toNat < S50048.size a)
theorem k0_idx10_inb : ∀ (v178 : IVec S16 32) (k0_hw10 : k0_chk10 v178), ∀ a x, ((![v178] : Fin 1 → IVec S16 32) a x).toNat < S50048.size a := fun v178 k0_hw10 => k0_hw10
def k0_off29 (i : grid0.Coords) (c0_i32_87 : BitVec 32) : Fin 3 → Nat :=
  let c1_i32_107 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_86 : BitVec 32 := 4#32
  let v71 : BitVec 32 := Scalar.muli v1 c4_i32_86
  let v72 : BitVec 32 := Scalar.addi v71 c0_i32_87
  let c0_i32_109 : BitVec 32 := 0#32
  ![1, v72.toNat, 0]
@[reducible] def k0_t16_loop : Scf.Loop 32 :=
  let c0_i32_118 : BitVec 32 := 0#32
  let c391_i32_119 : BitVec 32 := 391#32
  let v99 : BitVec 32 := Scalar.addi c0_i32_118 c391_i32_119
  let c1_i32_120 : BitVec 32 := 1#32
  ⟨c0_i32_118, v99, c1_i32_120⟩
def k0_off30 (k0_t16 : Fin k0_t16_loop.trips) (c0_i32_194 : BitVec 32) : Fin 1 → Nat :=
  let c0_i32_118 : BitVec 32 := 0#32
  let c1_i32_120 : BitVec 32 := 1#32
  let arg10 : BitVec 32 := Scf.iv c0_i32_118 c1_i32_120 k0_t16
  let c8_i32 : BitVec 32 := 8#32
  let v163 : BitVec 32 := Scalar.muli arg10 c8_i32
  let v164 : BitVec 32 := Scalar.addi v163 c0_i32_194
  let c16_i32 : BitVec 32 := 16#32
  let v165 : BitVec 32 := Scalar.muli v164 c16_i32
  let v166 : Index := Scalar.indexCast v165
  ![v166.toNat]
@[reducible] def k0_t17_loop : Scf.Loop 32 :=
  let c0_i32_123 : BitVec 32 := 0#32
  let c512_i32_124 : BitVec 32 := 512#32
  let v101 : BitVec 32 := Scalar.addi c0_i32_123 c512_i32_124
  let c1_i32_125 : BitVec 32 := 1#32
  ⟨c0_i32_123, v101, c1_i32_125⟩
def k0_off31 (k0_t17 : Fin k0_t17_loop.trips) : Fin 1 → Nat :=
  let c0_i32_194 : BitVec 32 := 0#32
  let c0_i32_123 : BitVec 32 := 0#32
  let c1_i32_125 : BitVec 32 := 1#32
  let arg10 : BitVec 32 := Scf.iv c0_i32_123 c1_i32_125 k0_t17
  let c16_i32 : BitVec 32 := 16#32
  let v163 : BitVec 32 := Scalar.muli arg10 c16_i32
  let v164 : BitVec 32 := Scalar.addi c0_i32_194 v163
  let v165 : Index := Scalar.indexCast v164
  ![v165.toNat]
def k0_off32 (k0_t17 : Fin k0_t17_loop.trips) : Fin 1 → Nat :=
  let c0_i32_123 : BitVec 32 := 0#32
  let c1_i32_125 : BitVec 32 := 1#32
  let arg10 : BitVec 32 := Scf.iv c0_i32_123 c1_i32_125 k0_t17
  let c16_i32_195 : BitVec 32 := 16#32
  let v167 : BitVec 32 := Scalar.muli arg10 c16_i32_195
  let v168 : Index := Scalar.indexCast v167
  ![v168.toNat]

def k0_chk11 (v178 : IVec S16 32) : Prop :=
  (∀ a x, ((![v178] : Fin 1 → IVec S16 32) a x).toNat < S50048.size a)
theorem k0_idx11_inb : ∀ (v178 : IVec S16 32) (k0_hw11 : k0_chk11 v178), ∀ a x, ((![v178] : Fin 1 → IVec S16 32) a x).toNat < S50048.size a := fun v178 k0_hw11 => k0_hw11
@[reducible] def k0_t18_loop : Scf.Loop 32 :=
  let c0_i32_128 : BitVec 32 := 0#32
  let c512_i32_129 : BitVec 32 := 512#32
  let v103 : BitVec 32 := Scalar.addi c0_i32_128 c512_i32_129
  let c1_i32_130 : BitVec 32 := 1#32
  ⟨c0_i32_128, v103, c1_i32_130⟩
def k0_off33 (k0_t18 : Fin k0_t18_loop.trips) : Fin 1 → Nat :=
  let c8192_i32 : BitVec 32 := 8192#32
  let c0_i32_128 : BitVec 32 := 0#32
  let c1_i32_130 : BitVec 32 := 1#32
  let arg10 : BitVec 32 := Scf.iv c0_i32_128 c1_i32_130 k0_t18
  let c16_i32 : BitVec 32 := 16#32
  let v163 : BitVec 32 := Scalar.muli arg10 c16_i32
  let v164 : BitVec 32 := Scalar.addi c8192_i32 v163
  let v165 : Index := Scalar.indexCast v164
  ![v165.toNat]
def k0_off34 (k0_t18 : Fin k0_t18_loop.trips) : Fin 1 → Nat :=
  let c0_i32_128 : BitVec 32 := 0#32
  let c1_i32_130 : BitVec 32 := 1#32
  let arg10 : BitVec 32 := Scf.iv c0_i32_128 c1_i32_130 k0_t18
  let c16_i32_194 : BitVec 32 := 16#32
  let v167 : BitVec 32 := Scalar.muli arg10 c16_i32_194
  let v168 : Index := Scalar.indexCast v167
  ![v168.toNat]

def k0_chk12 (v178 : IVec S16 32) : Prop :=
  (∀ a x, ((![v178] : Fin 1 → IVec S16 32) a x).toNat < S50048.size a)
theorem k0_idx12_inb : ∀ (v178 : IVec S16 32) (k0_hw12 : k0_chk12 v178), ∀ a x, ((![v178] : Fin 1 → IVec S16 32) a x).toNat < S50048.size a := fun v178 k0_hw12 => k0_hw12
@[reducible] def k0_t19_loop : Scf.Loop 32 :=
  let c0_i32_143 : BitVec 32 := 0#32
  let c391_i32_144 : BitVec 32 := 391#32
  let v119 : BitVec 32 := Scalar.addi c0_i32_143 c391_i32_144
  let c1_i32_145 : BitVec 32 := 1#32
  ⟨c0_i32_143, v119, c1_i32_145⟩
def k0_off35 (k0_t19 : Fin k0_t19_loop.trips) (c0_i32_194 : BitVec 32) : Fin 1 → Nat :=
  let c0_i32_143 : BitVec 32 := 0#32
  let c1_i32_145 : BitVec 32 := 1#32
  let arg10 : BitVec 32 := Scf.iv c0_i32_143 c1_i32_145 k0_t19
  let c8_i32 : BitVec 32 := 8#32
  let v163 : BitVec 32 := Scalar.muli arg10 c8_i32
  let v164 : BitVec 32 := Scalar.addi v163 c0_i32_194
  let c16_i32 : BitVec 32 := 16#32
  let v165 : BitVec 32 := Scalar.muli v164 c16_i32
  let v166 : Index := Scalar.indexCast v165
  ![v166.toNat]
@[reducible] def k0_t20_loop : Scf.Loop 32 :=
  let c0_i32_148 : BitVec 32 := 0#32
  let c512_i32_149 : BitVec 32 := 512#32
  let v121 : BitVec 32 := Scalar.addi c0_i32_148 c512_i32_149
  let c1_i32_150 : BitVec 32 := 1#32
  ⟨c0_i32_148, v121, c1_i32_150⟩
def k0_off36 (k0_t20 : Fin k0_t20_loop.trips) : Fin 1 → Nat :=
  let c0_i32_194 : BitVec 32 := 0#32
  let c0_i32_148 : BitVec 32 := 0#32
  let c1_i32_150 : BitVec 32 := 1#32
  let arg10 : BitVec 32 := Scf.iv c0_i32_148 c1_i32_150 k0_t20
  let c16_i32 : BitVec 32 := 16#32
  let v163 : BitVec 32 := Scalar.muli arg10 c16_i32
  let v164 : BitVec 32 := Scalar.addi c0_i32_194 v163
  let v165 : Index := Scalar.indexCast v164
  ![v165.toNat]
def k0_off37 (k0_t20 : Fin k0_t20_loop.trips) : Fin 1 → Nat :=
  let c0_i32_148 : BitVec 32 := 0#32
  let c1_i32_150 : BitVec 32 := 1#32
  let arg10 : BitVec 32 := Scf.iv c0_i32_148 c1_i32_150 k0_t20
  let c16_i32_195 : BitVec 32 := 16#32
  let v167 : BitVec 32 := Scalar.muli arg10 c16_i32_195
  let v168 : Index := Scalar.indexCast v167
  ![v168.toNat]

def k0_chk13 (v178 : IVec S16 32) : Prop :=
  (∀ a x, ((![v178] : Fin 1 → IVec S16 32) a x).toNat < S50048.size a)
theorem k0_idx13_inb : ∀ (v178 : IVec S16 32) (k0_hw13 : k0_chk13 v178), ∀ a x, ((![v178] : Fin 1 → IVec S16 32) a x).toNat < S50048.size a := fun v178 k0_hw13 => k0_hw13
@[reducible] def k0_t21_loop : Scf.Loop 32 :=
  let c0_i32_153 : BitVec 32 := 0#32
  let c512_i32_154 : BitVec 32 := 512#32
  let v123 : BitVec 32 := Scalar.addi c0_i32_153 c512_i32_154
  let c1_i32_155 : BitVec 32 := 1#32
  ⟨c0_i32_153, v123, c1_i32_155⟩
def k0_off38 (k0_t21 : Fin k0_t21_loop.trips) : Fin 1 → Nat :=
  let c8192_i32 : BitVec 32 := 8192#32
  let c0_i32_153 : BitVec 32 := 0#32
  let c1_i32_155 : BitVec 32 := 1#32
  let arg10 : BitVec 32 := Scf.iv c0_i32_153 c1_i32_155 k0_t21
  let c16_i32 : BitVec 32 := 16#32
  let v163 : BitVec 32 := Scalar.muli arg10 c16_i32
  let v164 : BitVec 32 := Scalar.addi c8192_i32 v163
  let v165 : Index := Scalar.indexCast v164
  ![v165.toNat]
def k0_off39 (k0_t21 : Fin k0_t21_loop.trips) : Fin 1 → Nat :=
  let c0_i32_153 : BitVec 32 := 0#32
  let c1_i32_155 : BitVec 32 := 1#32
  let arg10 : BitVec 32 := Scf.iv c0_i32_153 c1_i32_155 k0_t21
  let c16_i32_194 : BitVec 32 := 16#32
  let v167 : BitVec 32 := Scalar.muli arg10 c16_i32_194
  let v168 : Index := Scalar.indexCast v167
  ![v168.toNat]

def k0_chk14 (v178 : IVec S16 32) : Prop :=
  (∀ a x, ((![v178] : Fin 1 → IVec S16 32) a x).toNat < S50048.size a)
theorem k0_idx14_inb : ∀ (v178 : IVec S16 32) (k0_hw14 : k0_chk14 v178), ∀ a x, ((![v178] : Fin 1 → IVec S16 32) a x).toNat < S50048.size a := fun v178 k0_hw14 => k0_hw14
@[reducible] def k0_t22_loop : Scf.Loop 32 :=
  let c0_i32_168 : BitVec 32 := 0#32
  let c391_i32_169 : BitVec 32 := 391#32
  let v139 : BitVec 32 := Scalar.addi c0_i32_168 c391_i32_169
  let c1_i32_170 : BitVec 32 := 1#32
  ⟨c0_i32_168, v139, c1_i32_170⟩
def k0_off40 (k0_t22 : Fin k0_t22_loop.trips) (c0_i32_194 : BitVec 32) : Fin 1 → Nat :=
  let c0_i32_168 : BitVec 32 := 0#32
  let c1_i32_170 : BitVec 32 := 1#32
  let arg10 : BitVec 32 := Scf.iv c0_i32_168 c1_i32_170 k0_t22
  let c8_i32 : BitVec 32 := 8#32
  let v163 : BitVec 32 := Scalar.muli arg10 c8_i32
  let v164 : BitVec 32 := Scalar.addi v163 c0_i32_194
  let c16_i32 : BitVec 32 := 16#32
  let v165 : BitVec 32 := Scalar.muli v164 c16_i32
  let v166 : Index := Scalar.indexCast v165
  ![v166.toNat]
@[reducible] def k0_t23_loop : Scf.Loop 32 :=
  let c0_i32_173 : BitVec 32 := 0#32
  let c512_i32_174 : BitVec 32 := 512#32
  let v141 : BitVec 32 := Scalar.addi c0_i32_173 c512_i32_174
  let c1_i32_175 : BitVec 32 := 1#32
  ⟨c0_i32_173, v141, c1_i32_175⟩
def k0_off41 (k0_t23 : Fin k0_t23_loop.trips) : Fin 1 → Nat :=
  let c0_i32_194 : BitVec 32 := 0#32
  let c0_i32_173 : BitVec 32 := 0#32
  let c1_i32_175 : BitVec 32 := 1#32
  let arg10 : BitVec 32 := Scf.iv c0_i32_173 c1_i32_175 k0_t23
  let c16_i32 : BitVec 32 := 16#32
  let v163 : BitVec 32 := Scalar.muli arg10 c16_i32
  let v164 : BitVec 32 := Scalar.addi c0_i32_194 v163
  let v165 : Index := Scalar.indexCast v164
  ![v165.toNat]
def k0_off42 (k0_t23 : Fin k0_t23_loop.trips) : Fin 1 → Nat :=
  let c0_i32_173 : BitVec 32 := 0#32
  let c1_i32_175 : BitVec 32 := 1#32
  let arg10 : BitVec 32 := Scf.iv c0_i32_173 c1_i32_175 k0_t23
  let c16_i32_195 : BitVec 32 := 16#32
  let v167 : BitVec 32 := Scalar.muli arg10 c16_i32_195
  let v168 : Index := Scalar.indexCast v167
  ![v168.toNat]

def k0_chk15 (v178 : IVec S16 32) : Prop :=
  (∀ a x, ((![v178] : Fin 1 → IVec S16 32) a x).toNat < S50048.size a)
theorem k0_idx15_inb : ∀ (v178 : IVec S16 32) (k0_hw15 : k0_chk15 v178), ∀ a x, ((![v178] : Fin 1 → IVec S16 32) a x).toNat < S50048.size a := fun v178 k0_hw15 => k0_hw15
@[reducible] def k0_t24_loop : Scf.Loop 32 :=
  let c0_i32_178 : BitVec 32 := 0#32
  let c512_i32_179 : BitVec 32 := 512#32
  let v143 : BitVec 32 := Scalar.addi c0_i32_178 c512_i32_179
  let c1_i32_180 : BitVec 32 := 1#32
  ⟨c0_i32_178, v143, c1_i32_180⟩
def k0_off43 (k0_t24 : Fin k0_t24_loop.trips) : Fin 1 → Nat :=
  let c8192_i32 : BitVec 32 := 8192#32
  let c0_i32_178 : BitVec 32 := 0#32
  let c1_i32_180 : BitVec 32 := 1#32
  let arg10 : BitVec 32 := Scf.iv c0_i32_178 c1_i32_180 k0_t24
  let c16_i32 : BitVec 32 := 16#32
  let v163 : BitVec 32 := Scalar.muli arg10 c16_i32
  let v164 : BitVec 32 := Scalar.addi c8192_i32 v163
  let v165 : Index := Scalar.indexCast v164
  ![v165.toNat]
def k0_off44 (k0_t24 : Fin k0_t24_loop.trips) : Fin 1 → Nat :=
  let c0_i32_178 : BitVec 32 := 0#32
  let c1_i32_180 : BitVec 32 := 1#32
  let arg10 : BitVec 32 := Scf.iv c0_i32_178 c1_i32_180 k0_t24
  let c16_i32_194 : BitVec 32 := 16#32
  let v167 : BitVec 32 := Scalar.muli arg10 c16_i32_194
  let v168 : Index := Scalar.indexCast v167
  ![v168.toNat]

def k0_chk16 (v178 : IVec S16 32) : Prop :=
  (∀ a x, ((![v178] : Fin 1 → IVec S16 32) a x).toNat < S50048.size a)
theorem k0_idx16_inb : ∀ (v178 : IVec S16 32) (k0_hw16 : k0_chk16 v178), ∀ a x, ((![v178] : Fin 1 → IVec S16 32) a x).toNat < S50048.size a := fun v178 k0_hw16 => k0_hw16
abbrev grid1 : Pipeline.Grid := ⟨2, ![2, 23], ![false, false]⟩

def cc1_transform_0 (i : grid1.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.muli arg0 c23_i32
  let v1 : BitVec 32 := Scalar.addi v0 arg1
  let c0_i32 : BitVec 32 := 0#32
  let c0_i32_0 : BitVec 32 := 0#32
  ![c0_i32.toNat, v1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.muli arg0 c23_i32
  let v1 : BitVec 32 := Scalar.addi v0 arg1
  let c0_i32 : BitVec 32 := 0#32
  let c0_i32_0 : BitVec 32 := 0#32
  ![c0_i32.toNat, v1.toNat]

abbrev stage1_0 : Fin 2 → Memref sig .tc .vmem S128x2176 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x2176 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S128x2176 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x100000 : Shape := ⟨2, ![128, 100000]⟩
abbrev S16384 : Shape := ⟨1, ![16384]⟩
abbrev S128x16384 : Shape := ⟨2, ![128, 16384]⟩
abbrev S_ : Shape := ⟨0, ![]⟩
abbrev S16384x1 : Shape := ⟨2, ![16384, 1]⟩

abbrev nBuf : Space → Nat
  | .hbm => 12
  | .vmem => 0
  | .smem => 0
  | _ => 0

abbrev bufTy : (tb : Table) → Fin (tcTables nBuf tb) → BufTy
  | .hbm, ⟨0, _⟩ => ⟨S128x100000, .f32⟩
  | .hbm, ⟨1, _⟩ => ⟨S16384, .i32⟩
  | .hbm, ⟨2, _⟩ => ⟨S128x16384, .f32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S128x100000, .f32⟩
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Pass.lean ====
/-
  The SparseCore kernel's body told as eight runs of ONE pass. Pass `p` of a tile takes one buffer of a half row's
  length, sets it to zero, adds the updates of source row `4 * wid + p % 4` whose index lies in half `p / 4` at their
  columns (the masked scatter-add this problem is about), and starts the copy of the buffer to its place in the result.
  `passProg` is that pass with its buffer, its half and its row left open; `body_eq` says that the printed body is the
  copy of the indices and then the eight passes with the waits between them.
-/
module

public import proofs.«01_k».proof.Defs
public import Idealize.ShloMosaic.Lib.SparseCore.Quiescent
public import Idealize.ShloMosaic.Lib.SparseCore.Ops
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Delta

open Cert.KernelIdeal Cert.KernelIdeal.Gen
open Idealize.ShloMosaic Idealize.SL.Sem

variable {F : FTy → Type} [FloatOps F]

/-! ## What a pass computes -/

/-- The mask of one step: the lanes whose index lies in `[lo, hi)`. -/
def inHalf (lo hi : BitVec 32) (v : Vec F S16 .i32) : IVec S16 1 :=
  andi (cmpi .sge v (broadcast S16 lo)) (cmpi .slt v (broadcast S16 hi))

/-- The columns of one step: the index less `lo` on the lanes of the half, 0 on the others. -/
def colOf (lo hi : BitVec 32) (v : Vec F S16 .i32) : IVec S16 32 :=
  select (inHalf (F := F) lo hi v) (subi v (broadcast S16 lo)) (broadcast S16 0#32)

/-- Every column of a step names an element of the buffer. -/
abbrev ColOk (v : IVec S16 32) : Prop := ∀ a x, ((![v] : Fin 1 → IVec S16 32) a x).toNat < S50048.size a

/-! ## The pieces of the program -/

abbrev Tile (i : grid0.Coords) : Proc τ := .scVector ((i 0).castLE hcore0) ((i 1).castLE hsub0)

variable (i : grid0.Coords)

/-- The kernel's arrays and scratches, as the body table passes them. -/
abbrev idxV : Memref sig .scVector .hbm S16384 .i32 := Memref.whole main_arg1_scv
abbrev srcV : Memref sig .scVector .hbm S128x16384 .f32 := Memref.whole main_arg2_scv
abbrev dltV : Memref sig .scVector .hbm S2x128x50048 .f32 := Memref.whole main_v0_scv
abbrev idxS : Memref sig .scVector .vmem S16384 .i32 := Memref.whole cc0_scratch0
abbrev bufA : Memref sig .scVector .vmem S50048 .f32 := Memref.whole cc0_scratch1
abbrev bufB : Memref sig .scVector .vmem S50048 .f32 := Memref.whole cc0_scratch2
abbrev srcS : Memref sig .scVector .vmem S8192 .f32 := Memref.whole cc0_scratch3

/-- A place of sixteen elements in a buffer of a half row. -/
abbrev zRect (k : Fin k0_t1_loop.trips) (j : Fin 8) : Rect S50048 :=
  Rect.unit (s := S50048) (k0_off1 k (BitVec.ofNat 32 j.val)) S16.size (k0_off1_inb k j)

/-- Sixteen elements of the buffer read and set to zero, at trip `k`'s `j`-th place. -/
def zeroAt (B : Memref sig .scVector .vmem S50048 .f32) (k : Fin k0_t1_loop.trips) (j : Fin 8) :
    Prog (TpuEff nD τ sig (Elt F) Λ₀ (Tile i)) PUnit := do
  let _v : Vec F S16 .f32 ← Prog.lift (.load B (zRect k j).toLoadRect (View.loadsAt_vmem h_S16))
  Prog.lift (.store B (zRect k j) (k0_pay1 (F := F)) Finset.univ (View.stores_vmem_bits_univ h_S16 rfl) (.inl rfl))

/-- A trip of the zeroing loop: 128 elements. -/
def zeroTrip (B : Memref sig .scVector .vmem S50048 .f32) (k : Fin k0_t1_loop.trips) (_ : BitVec 32) :
    Prog (TpuEff nD τ sig (Elt F) Λ₀ (Tile i)) (BitVec 32) := do
  zeroAt i B k 0
  zeroAt i B k 1
  zeroAt i B k 2
  zeroAt i B k 3
  zeroAt i B k 4
  zeroAt i B k 5
  zeroAt i B k 6
  zeroAt i B k 7
  pure 0#32

/-- Sixteen updates added: at offset `oi` of the indices and `os` of the staged source chunk. -/
def scatStep (B : Memref sig .scVector .vmem S50048 .f32) (lo hi : BitVec 32) (oi os : Fin 1 → ℕ)
    (hoi : ∀ a, oi a + S16.size a ≤ S16384.size a) (hos : ∀ a, os a + S16.size a ≤ S8192.size a) :
    Prog (TpuEff nD τ sig (Elt F) Λ₀ (Tile i)) (BitVec 32) := do
  let v : Vec F S16 .i32 ← Prog.lift (.load idxS (Rect.unit (s := S16384) oi S16.size hoi).toLoadRect (View.loadsAt_vmem h_S16))
  let w : Vec F S16 .f32 ← Prog.lift (.load srcS (Rect.unit (s := S8192) os S16.size hos).toLoadRect (View.loadsAt_vmem h_S16))
  have c : IVec S16 32 := colOf (F := F) lo hi v
  have hw : ColOk c := (← Prog.lift (TpuEff.assume (ColOk c) (k0_chk1.dec c))).down
  SparseCore.vectorStoreIdx B ![c] w (inHalf (F := F) lo hi v) true hw (View.stores_vmem_bits_univ h_S50048 rfl)
  pure 0#32

/-- The first half of a source row, as the copies name it. -/
abbrev chunkA (c : Fin 4) : Memref sig .scVector .hbm S8192 .f32 :=
  (srcV.slice (Rect.unit (s := S128x16384) (k0_off2 i (BitVec.ofNat 32 c.val)) S1x8192.size (k0_off2_inb i c)) (fun _ => rfl)).squeeze S8192 squeezes_S1x8192_S8192
/-- The second half of a source row. -/
abbrev chunkB (c : Fin 4) : Memref sig .scVector .hbm S8192 .f32 :=
  (srcV.slice (Rect.unit (s := S128x16384) (k0_off5 i (BitVec.ofNat 32 c.val)) S1x8192.size (k0_off5_inb i c)) (fun _ => rfl)).squeeze S8192 squeezes_S1x8192_S8192

/-- A chunk staged: its copy and the wait for it. -/
def stage (V : Memref sig .scVector .hbm S8192 .f32) (hV : V.view.WordExact) (sm : DmaSems sig S_) :
    Prog (TpuEff nD τ sig (Elt F) Λ₀ (Tile i)) PUnit := do
  Prog.lift (.enqueueDma V (.here srcS) (.dma sm.sem) hV (Memref.isWhole_whole _).wordExact ⟨Or.inl rfl, trivial⟩)
  Prog.lift (.waitDma2 sm.sem V srcS hV (Memref.isWhole_whole _).wordExact)

/-- The first scatter loop's trip and the second's. -/
def scatTripA (B : Memref sig .scVector .vmem S50048 .f32) (lo hi : BitVec 32) (k : Fin k0_t2_loop.trips) (_ : BitVec 32) :
    Prog (TpuEff nD τ sig (Elt F) Λ₀ (Tile i)) (BitVec 32) :=
  scatStep i B lo hi (k0_off3 k) (k0_off4 k) (k0_off3_inb k) (k0_off4_inb k)
def scatTripB (B : Memref sig .scVector .vmem S50048 .f32) (lo hi : BitVec 32) (k : Fin k0_t3_loop.trips) (_ : BitVec 32) :
    Prog (TpuEff nD τ sig (Elt F) Λ₀ (Tile i)) (BitVec 32) :=
  scatStep i B lo hi (k0_off6 k) (k0_off7 k) (k0_off6_inb k) (k0_off7_inb k)

/-- A pass up to the copy out: the buffer zeroed, and the updates of row `c` of the tile's four added to it. -/
def passProg (B : Memref sig .scVector .vmem S50048 .f32) (lo hi : BitVec 32) (c : Fin 4) (s1 s2 : DmaSems sig S_) :
    Prog (TpuEff nD τ sig (Elt F) Λ₀ (Tile i)) PUnit := do
  let _ ← Scf.Loop.for k0_t1_loop k0_t1_ok 0#32 (zeroTrip i B)
  stage i (chunkA i c) ((View.wordExact_bits rfl).reshape _ _) s1
  let _ ← Scf.Loop.for k0_t2_loop k0_t2_ok 0#32 (scatTripA i B lo hi)
  stage i (chunkB i c) ((View.wordExact_bits rfl).reshape _ _) s2
  let _ ← Scf.Loop.for k0_t3_loop k0_t3_ok 0#32 (scatTripB i B lo hi)
  pure ⟨⟩

/-- The rows of the result a tile fills: of its lower half and of its upper half. -/
abbrev outLo (c : Fin 4) : Memref sig .scVector .hbm S50048 .f32 :=
  (dltV.slice (Rect.unit (s := S2x128x50048) (k0_off8 i (BitVec.ofNat 32 c.val)) S1x1x50048.size (k0_off8_inb i c)) (fun _ => rfl)).squeeze S50048 squeezes_S1x1x50048_S50048
abbrev outHi (c : Fin 4) : Memref sig .scVector .hbm S50048 .f32 :=
  (dltV.slice (Rect.unit (s := S2x128x50048) (k0_off29 i (BitVec.ofNat 32 c.val)) S1x1x50048.size (k0_off29_inb i c)) (fun _ => rfl)).squeeze S50048 squeezes_S1x1x50048_S50048

/-- The two semaphores of the copies out. -/
abbrev semA : DmaSems sig S_ := (cc0_scratch4.slice (Rect.unit (s := S2) ![0] S1.size inb_S2_S1_0)).squeeze S_ squeezes_S1_S_
abbrev semB : DmaSems sig S_ := (cc0_scratch4.slice (Rect.unit (s := S2) ![1] S1.size inb_S2_S1_1)).squeeze S_ squeezes_S1_S_

/-- The start of a copy out and the wait for it. -/
def outStart (B : Memref sig .scVector .vmem S50048 .f32) (hB : B.view.WordExact) (V : Memref sig .scVector .hbm S50048 .f32)
    (hV : V.view.WordExact) (sm : DmaSems sig S_) : Prog (TpuEff nD τ sig (Elt F) Λ₀ (Tile i)) PUnit :=
  Prog.lift (.enqueueDma B (.here V) (.dma sm.sem) hB hV ⟨Or.inl rfl, trivial⟩)
def outWait (B : Memref sig .scVector .vmem S50048 .f32) (hB : B.view.WordExact) (V : Memref sig .scVector .hbm S50048 .f32)
    (hV : V.view.WordExact) (sm : DmaSems sig S_) : Prog (TpuEff nD τ sig (Elt F) Λ₀ (Tile i)) PUnit :=
  Prog.lift (.waitDma2 sm.sem B V hB hV)

/-- The whole body: the indices staged, and the eight passes. -/
def bodyProg : Prog (TpuEff nD τ sig (Elt F) Λ₀ (Tile i)) PUnit := do
  Prog.lift (.enqueueDma idxV (.here idxS) (.dma cc0_scoped0.sem) (Memref.isWhole_whole _).wordExact (Memref.isWhole_whole _).wordExact ⟨Or.inl rfl, trivial⟩)
  Prog.lift (.waitDma2 cc0_scoped0.sem idxV idxS (Memref.isWhole_whole _).wordExact (Memref.isWhole_whole _).wordExact)
  passProg i bufA 0#32 50048#32 0 cc0_scoped1 cc0_scoped2
  outStart i bufA (Memref.isWhole_whole _).wordExact (outLo i 0) ((View.wordExact_bits rfl).reshape _ _) semA
  passProg i bufB 0#32 50048#32 1 cc0_scoped3 cc0_scoped4
  outStart i bufB (Memref.isWhole_whole _).wordExact (outLo i 1) ((View.wordExact_bits rfl).reshape _ _) semB
  outWait i bufA (Memref.isWhole_whole _).wordExact (outLo i 0) ((View.wordExact_bits rfl).reshape _ _) semA
  passProg i bufA 0#32 50048#32 2 cc0_scoped5 cc0_scoped6
  outStart i bufA (Memref.isWhole_whole _).wordExact (outLo i 2) ((View.wordExact_bits rfl).reshape _ _) semA
  outWait i bufB (Memref.isWhole_whole _).wordExact (outLo i 1) ((View.wordExact_bits rfl).reshape _ _) semB
  passProg i bufB 0#32 50048#32 3 cc0_scoped7 cc0_scoped8
  outStart i bufB (Memref.isWhole_whole _).wordExact (outLo i 3) ((View.wordExact_bits rfl).reshape _ _) semB
  outWait i bufA (Memref.isWhole_whole _).wordExact (outLo i 2) ((View.wordExact_bits rfl).reshape _ _) semA
  passProg i bufA 50048#32 100096#32 0 cc0_scoped9 cc0_scoped10
  outStart i bufA (Memref.isWhole_whole _).wordExact (outHi i 0) ((View.wordExact_bits rfl).reshape _ _) semA
  outWait i bufB (Memref.isWhole_whole _).wordExact (outLo i 3) ((View.wordExact_bits rfl).reshape _ _) semB
  passProg i bufB 50048#32 100096#32 1 cc0_scoped11 cc0_scoped12
  outStart i bufB (Memref.isWhole_whole _).wordExact (outHi i 1) ((View.wordExact_bits rfl).reshape _ _) semB
  outWait i bufA (Memref.isWhole_whole _).wordExact (outHi i 0) ((View.wordExact_bits rfl).reshape _ _) semA
  passProg i bufA 50048#32 100096#32 2 cc0_scoped13 cc0_scoped14
  outStart i bufA (Memref.isWhole_whole _).wordExact (outHi i 2) ((View.wordExact_bits rfl).reshape _ _) semA
  outWait i bufB (Memref.isWhole_whole _).wordExact (outHi i 1) ((View.wordExact_bits rfl).reshape _ _) semB
  passProg i bufB 50048#32 100096#32 3 cc0_scoped15 cc0_scoped16
  outStart i bufB (Memref.isWhole_whole _).wordExact (outHi i 3) ((View.wordExact_bits rfl).reshape _ _) semB
  outWait i bufA (Memref.isWhole_whole _).wordExact (outHi i 2) ((View.wordExact_bits rfl).reshape _ _) semA
  outWait i bufB (Memref.isWhole_whole _).wordExact (outHi i 3) ((View.wordExact_bits rfl).reshape _ _) semB
  pure ⟨⟩

set_option maxRecDepth 65536 in
/-- The printed body is `bodyProg`: by unfolding. -/
theorem body_eq :
    cc0__delta_body (F := F) i idxV (Memref.isWhole_whole _) srcV (Memref.isWhole_whole _) dltV (Memref.isWhole_whole _)
      idxS (Memref.isWhole_whole _) bufA (Memref.isWhole_whole _) bufB (Memref.isWhole_whole _) srcS (Memref.isWhole_whole _) cc0_scratch4
      cc0_scoped0 cc0_scoped1 cc0_scoped2 cc0_scoped3 cc0_scoped4 cc0_scoped5 cc0_scoped6 cc0_scoped7 cc0_scoped8
      cc0_scoped9 cc0_scoped10 cc0_scoped11 cc0_scoped12 cc0_scoped13 cc0_scoped14 cc0_scoped15 cc0_scoped16
      = bodyProg i := by
  rw [cc0__delta_body_eq_skeleton]
  simp only [cc0__delta_body_skel, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part9_skel, k0_part10_skel, k0_part11_skel, k0_part12_skel, k0_part13_skel, k0_part14_skel, k0_part15_skel, k0_part16_skel,
    k0_part17_skel, k0_part18_skel, bodyProg, passProg, stage, outStart, outWait, bind_assoc, pure_bind]
  rfl

end Cert.Proof.Delta

end
-- ==== Proof.Spec.lean ====
/-
  What the kernel computes, said without its program. Step `n` of a pass takes the sixteen indices and updates
  numbered `16 n … 16 n + 15` and adds the updates whose index lies in the pass's half at their columns;
  `rowAcc` is what a buffer of zeros holds after so many steps, `delta` the array of the two halves of every row
  after all 1024.
-/
module

public import proofs.«01_k».proof.Proof.Pass

@[expose] public section

noncomputable section

namespace Cert.Proof.Delta

open Cert.KernelIdeal Cert.KernelIdeal.Gen
open Idealize.ShloMosaic Idealize.SL.Sem

variable {F : FTy → Type} [FloatOps F]

/-! ## The columns of a step are inside the buffer -/

/-- The two halves of a row, each 50048 columns (the second reaches past the row's end). -/
def IsHalf (lo hi : BitVec 32) : Prop := (lo = 0#32 ∧ hi = 50048#32) ∨ (lo = 50048#32 ∧ hi = 100096#32)

theorem isHalf_lo : IsHalf 0#32 50048#32 := .inl ⟨rfl, rfl⟩
theorem isHalf_hi : IsHalf 50048#32 100096#32 := .inr ⟨rfl, rfl⟩

/-- A lane's mask bit is set exactly when its index, a signed number, lies in the half. -/
theorem inHalf_iff (lo hi : BitVec 32) (v : Vec F S16 .i32) (x : S16.Idx) :
    inHalf (F := F) lo hi v x = 1 ↔ lo.toInt ≤ (v x : BitVec 32).toInt ∧ (v x : BitVec 32).toInt < hi.toInt := by
  show IntOp.andi (IntOp.cmpi .sge (v x : BitVec 32) lo) (IntOp.cmpi .slt (v x : BitVec 32) hi) = 1 ↔ _
  generalize (v x : BitVec 32) = w
  have e : ∀ p q : Bool, (BitVec.ofBool p &&& BitVec.ofBool q = 1#1) ↔ (p = true ∧ q = true) := by decide
  show BitVec.ofBool (lo.sle w) &&& BitVec.ofBool (w.slt hi) = 1#1 ↔ _
  rw [e, BitVec.sle_iff_toInt_le, BitVec.slt_iff_toInt_lt]

theorem colOk {lo hi : BitVec 32} (h : IsHalf lo hi) (v : Vec F S16 .i32) : ColOk (colOf (F := F) lo hi v) := by
  intro a x
  obtain rfl : a = 0 := Subsingleton.elim _ _
  show (if inHalf (F := F) lo hi v x = 1 then (v x : BitVec 32) - lo else 0#32).toNat < 50048
  split
  · rename_i hm
    obtain ⟨h1, h2⟩ := (inHalf_iff lo hi v x).mp hm
    generalize (v x : BitVec 32) = w at h1 h2
    rcases h with ⟨rfl, rfl⟩ | ⟨rfl, rfl⟩
    · have e1 : (0#32 : BitVec 32).toInt = 0 := by decide
      have e2 : (50048#32 : BitVec 32).toInt = 50048 := by decide
      rw [e1] at h1; rw [e2] at h2
      simp only [BitVec.toInt_eq_toNat_cond] at h1 h2
      rw [BitVec.toNat_sub]
      simp only [BitVec.toNat_ofNat]
      split at h1 <;> omega
    · have e1 : (50048#32 : BitVec 32).toInt = 50048 := by decide
      have e2 : (100096#32 : BitVec 32).toInt = 100096 := by decide
      rw [e1] at h1; rw [e2] at h2
      simp only [BitVec.toInt_eq_toNat_cond] at h1 h2
      rw [BitVec.toNat_sub]
      simp only [BitVec.toNat_ofNat]
      split at h1 <;> omega
  · decide

/-! ## A pass's sums, step by step -/

/-- The `k`-th place of a row of 16384. -/
def place (k : ℕ) : S16384.Idx := fun a => ⟨k % 16384, by
  obtain rfl : a = 0 := Subsingleton.elim _ _
  exact Nat.mod_lt _ (by decide)⟩

theorem place_val (k : ℕ) (h : k < 16384) (a : Fin 1) : (place k a).val = k := Nat.mod_eq_of_lt h

/-- The place lane `x` of step `n` takes its index and its update from. -/
def lane (n : ℕ) (x : S16.Idx) : S16384.Idx := place (16 * n + (x 0).val)

/-- The zero the buffers start from. -/
def zeroE : Elt F .f32 := (Scalar.ofBits .f32 0#32 : F .f32)

variable (lo hi : BitVec 32) (h : IsHalf lo hi)

/-- One step: sixteen updates added under the half's mask. -/
def stepOf (ix : S16384.Idx → Elt F .i32) (sr : S16384.Idx → Elt F .f32) (n : ℕ)
    (g : Vec F S50048 .f32) : Vec F S50048 .f32 :=
  storeIdx g ![colOf (F := F) lo hi fun x => ix (lane n x)] (fun x => sr (lane n x)) (inHalf (F := F) lo hi fun x => ix (lane n x)) true
    (colOk h fun x => ix (lane n x))

/-- A buffer of zeros after `n` steps. -/
def rowAcc (ix : S16384.Idx → Elt F .i32) (sr : S16384.Idx → Elt F .f32) : ℕ → Vec F S50048 .f32
  | 0 => fun _ => zeroE
  | n + 1 => stepOf lo hi h ix sr n (rowAcc ix sr n)

omit lo hi h

/-- The columns of half `p` run from `loOf p` up to `hiOf p`. -/
def loOf (p : ℕ) : BitVec 32 := if p = 0 then 0#32 else 50048#32
def hiOf (p : ℕ) : BitVec 32 := if p = 0 then 50048#32 else 100096#32
theorem isHalf_of (p : ℕ) : IsHalf (loOf p) (hiOf p) := by
  unfold loOf hiOf; split
  · exact isHalf_lo
  · exact isHalf_hi

/-- The place `y` of row `r`. -/
def srcAt (r : Fin 128) (y : S16384.Idx) : S128x16384.Idx
  | 0 => r
  | 1 => ⟨(y 0).val, (y 0).isLt⟩

/-- Row `r` of an array of rows of 16384. -/
def srcRow (src : S128x16384.Idx → Elt F .f32) (r : Fin 128) : S16384.Idx → Elt F .f32 := fun y => src (srcAt r y)

/-- The column of a place of the array of half rows. -/
def colAt (z : S2x128x50048.Idx) : S50048.Idx
  | 0 => ⟨(z 2).val, (z 2).isLt⟩

/-- The whole array the SparseCores leave: at half `a`, row `r`, column `c` the sum over all steps. -/
def delta (ix : S16384.Idx → Elt F .i32) (src : S128x16384.Idx → Elt F .f32) : S2x128x50048.Idx → Elt F .f32 :=
  fun z => rowAcc (loOf (z 0).val) (hiOf (z 0).val) (isHalf_of _) ix (srcRow src (z 1)) 1024 (colAt z)

end Cert.Proof.Delta

end
-- ==== Proof.Body.lean ====
/-
  A tile's body runs: the resource algebra and the launch's configuration, then the triples of the pieces of
  `bodyProg` — the zeroing loop, a scatter step and the two scatter loops, a staged chunk, a pass, a copy out.
-/
module

public import proofs.«01_k».proof.Proof.Spec

@[expose] public section

noncomputable section

namespace Cert.Proof.Delta

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev 𝒱₀ : Variants := Variants.none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' ghosts, the pipeline's, and the copies' counters -/

abbrev UH : Type := URounds (GSem nD τ sig) ℕ
abbrev UK : Type := URounds (GSem nD τ sig) Unit
abbrev UU : Type := UH × (UK × Counters)

local notation "𝕄" => MT nD τ sig (HIx 1) (Elt F) ℕ UU ℕ

abbrev EC : UEmb Counters (MT nD τ sig (HIx 1) (Elt F) ℕ UU ℕ) := countersEmb

variable [FloatOps F]

section Tile

variable (d : Dev nD) (i : grid0.Coords)

/-- The tile's thread. -/
abbrev thr : Thread nD τ := (d, Tile i)

variable (B : Memref sig .scVector .vmem S50048 .f32)

/-- The buffer at some contents of which `p` holds, read through its memref. -/
def Held (p : Vec F S50048 .f32 → Prop) : sProp 𝕄 :=
  iprop(∃ f, ⌜p (B.view.read (Elt F) f)⌝ ∗ B.view.loc (thr d i) ↦[B.view.set]{fullShare} f)

theorem held_mono {p q : Vec F S50048 .f32 → Prop} (h : ∀ g, p g → q g) : Held (F := F) d i B p ⊢ Held d i B q := by
  unfold Held
  iintro ⟨%f, %hf, H⟩
  iexists f
  isplitr; · ipureintro; exact h _ hf
  iexact H

/-! ## The zeroing loop -/

/-- The first `n` elements are zero. -/
def ZeroTo (n : ℕ) (g : Vec F S50048 .f32) : Prop := ∀ y : S50048.Idx, (y 0).val < n → g y = zeroE

theorem wp_zeroAt (k : Fin k0_t1_loop.trips) (j : Fin 8) :
    Held (F := F) d i B (ZeroTo (128 * k.val + 16 * j.val))
      ⊢ wp frame (wpE (defs₀ (F := F)) 𝒱₀ (thr d i) none) Set.univ (zeroAt i B k j)
          fun _ => Held d i B (ZeroTo (128 * k.val + 16 * (j.val + 1))) := by
  unfold zeroAt Held
  simp only [Prog.lift, Prog.bind_op, Prog.bind_ret, Prog.pure_eq_ret]
  iintro ⟨%f, %hf, H⟩
  iapply (wp_load 𝒱₀ (thr d i) none Set.univ (m := B) (S := B.view.set) (View.setOn_subset_set _ _)) $$ H
  iintro H
  iapply (wp_store 𝒱₀ (thr d i) none Set.univ (m := B) (r := zRect k j) (Mk := Finset.univ) (S := B.view.set) (View.set_slice_subset _ _)) $$ H
  iintro H
  rw [wp_ret]; imodintro
  iexists _
  isplitr
  rotate_left
  · iexact H
  ipureintro
  intro y hy
  by_cases hm : y ∈ Finset.univ.map (zRect k j).emb
  · obtain ⟨x, -, rfl⟩ := Finset.mem_map.mp hm
    exact View.read_slice_write_emb _ _ _ (Finset.mem_univ x)
  · refine (View.read_slice_write_of_not_mem _ _ _ _ hm).trans (hf y ?_)
    by_contra hlt
    apply hm
    rw [Rect.map_emb_univ, Rect.mem_set_unit]
    intro a
    obtain rfl : a = 0 := Subsingleton.elim _ _
    rw [k0_off1_eq]
    show 128 * k.val + 16 * j.val ≤ (y 0).val ∧ (y 0).val < 128 * k.val + 16 * j.val + 16
    omega

theorem wp_zeroLoop :
    Held (F := F) d i B (fun _ => True)
      ⊢ wp frame (wpE (defs₀ (F := F)) 𝒱₀ (thr d i) none) Set.univ (Scf.Loop.for k0_t1_loop k0_t1_ok 0#32 (zeroTrip i B))
          fun _ => Held d i B (fun g => g = fun _ => zeroE) := by
  have hstep : ∀ (k : Fin k0_t1_loop.trips) (acc : BitVec 32), Held (F := F) d i B (ZeroTo (128 * k.val))
      ⊢ wp frame (wpE (defs₀ (F := F)) 𝒱₀ (thr d i) none) Set.univ (zeroTrip i B k acc) fun _ => Held d i B (ZeroTo (128 * (k.val + 1))) := by
    intro k acc
    have one : ∀ (j : Fin 8) {α : Type} {n n' : ℕ} {kk : PUnit → Prog (TpuEff nD τ sig (Elt F) Λ₀ (Tile i)) α} {Q : α → sProp 𝕄},
        n = 128 * k.val + 16 * j.val → n' = 128 * k.val + 16 * (j.val + 1) →
        (Held (F := F) d i B (ZeroTo n') ⊢ wp frame (wpE (defs₀ (F := F)) 𝒱₀ (thr d i) none) Set.univ (kk ⟨⟩) Q) →
        Held (F := F) d i B (ZeroTo n) ⊢ wp frame (wpE (defs₀ (F := F)) 𝒱₀ (thr d i) none) Set.univ (zeroAt i B k j >>= kk) Q := by
      rintro j α n n' kk Q rfl rfl hk
      rw [wp_bind]
      exact (wp_zeroAt d i B k j).trans (wp_mono frame _ _ fun _ => hk)
    unfold zeroTrip
    refine one 0 (by simp) rfl (one 1 rfl rfl (one 2 rfl rfl (one 3 rfl rfl (one 4 rfl rfl (one 5 rfl rfl (one 6 rfl rfl (one 7 rfl rfl ?_)))))))
    rw [wp_pure]
    iintro H; imodintro
    iapply (held_mono d i B fun g hg y hy => hg y (by simpa [Nat.mul_add] using hy)) $$ H
  iintro H
  iapply (Scf.wp_for frame _ _ _ _ _ k0_t1_ok 0#32 (zeroTrip i B) (fun k _ => Held d i B (ZeroTo (128 * k))) hstep)
  isplitl
  · iapply (held_mono d i B (p := fun _ => True) fun g _ y hy => absurd hy (by simp)) $$ H
  · iintro %acc H
    iapply (held_mono d i B fun g hg => ?_) $$ H
    funext y
    exact hg y (lt_of_lt_of_eq (y 0).isLt (show (50048 : ℕ) = 128 * k0_t1_loop.trips by decide))

/-! ## A scatter step -/

variable (lo hi : BitVec 32) (h : IsHalf lo hi)

/-- A tile's copy of the indices, and its staged chunk of a source row. -/
abbrev idxPts (ix : S16384.Idx → Elt F .i32) : sProp 𝕄 := (thr d i).loc cc0_scratch0 ↦{fullShare} ix
abbrev srcPts (fs : S8192.Idx → Elt F .f32) : sProp 𝕄 := (thr d i).loc cc0_scratch3 ↦{fullShare} fs

/-- The staged chunk is the row's part from `off` on. -/
def Chunk (sr : S16384.Idx → Elt F .f32) (off : ℕ) (fs : S8192.Idx → Elt F .f32) : Prop := ∀ y, fs y = sr (place (off + (y 0).val))

omit [FloatOps F] in
theorem read_idx (ix : S16384.Idx → Elt F .i32) {n : ℕ} {o : Fin 1 → ℕ} (ho : o = ![16 * n]) (hn : n < 1024) (hb : ∀ a, o a + S16.size a ≤ S16384.size a) :
    (idxS.view.readAt (Elt F) (Rect.unit (s := S16384) o S16.size hb).toLoadRect ix : S16.Idx → Elt F .i32) = fun x => ix (lane n x) := by
  subst ho
  funext x
  simp only [View.readAt_apply, Memref.view_whole, View.read_whole]
  congr 1
  funext a
  obtain rfl : a = 0 := Subsingleton.elim _ _
  have hx : (x 0).val < 16 := (x 0).isLt
  apply Fin.ext
  rw [LoadRect.idx_apply]
  show 16 * n + 1 * (x 0).val = (16 * n + (x 0).val) % 16384
  omega

omit [FloatOps F] in
theorem read_src (sr : S16384.Idx → Elt F .f32) {off : ℕ} {fs : S8192.Idx → Elt F .f32} (hfs : Chunk sr off fs) {n m : ℕ} {o : Fin 1 → ℕ}
    (ho : o = ![16 * m]) (hm : off + 16 * m = 16 * n) (hb : ∀ a, o a + S16.size a ≤ S8192.size a) :
    (srcS.view.readAt (Elt F) (Rect.unit (s := S8192) o S16.size hb).toLoadRect fs : S16.Idx → Elt F .f32) = fun x => sr (lane n x) := by
  subst ho
  funext x
  simp only [View.readAt_apply, Memref.view_whole, View.read_whole]
  rw [hfs]
  congr 1
  unfold lane
  congr 1
  rw [LoadRect.idx_apply]
  show off + (16 * m + 1 * (x 0).val) = _
  omega

omit [FloatOps F] in
theorem set_access_whole : (B.access (.whole S50048)).set = B.view.set := by
  refine (View.set_slice (v := B.view) (.whole S50048)).trans ?_
  rw [Rect.set_whole]
  rfl
omit [FloatOps F] in
theorem read_access_whole (f : B.view.ty.Contents (Elt F)) : (B.access (.whole S50048)).read (Elt F) f = B.view.read (Elt F) f := by
  funext x
  rw [View.read_apply, View.read_apply, show (B.access (.whole S50048)).emb x = B.view.emb ((Rect.whole S50048).emb x) from rfl, Rect.emb_whole_apply]
omit [FloatOps F] in
theorem read_write_access_whole (f : B.view.ty.Contents (Elt F)) (w : S50048.Idx → Elt F .f32) :
    B.view.read (Elt F) ((B.access (.whole S50048)).write (Elt F) f w Finset.univ) = w := by
  funext x
  have := View.read_slice_write_emb (v := B.view) (Val := Elt F) (.whole S50048) f w (x := x) (Finset.mem_univ x)
  rwa [Rect.emb_whole_apply] at this

theorem step_eq (ix : S16384.Idx → Elt F .i32) (sr : S16384.Idx → Elt F .f32) {n : ℕ} (g : Vec F S50048 .f32)
    {v : Vec F S16 .i32} {w : Vec F S16 .f32} (hv : v = fun x => ix (lane n x)) (hw : w = fun x => sr (lane n x)) (hok : ColOk (colOf (F := F) lo hi v)) :
    storeIdx g ![colOf (F := F) lo hi v] w (inHalf (F := F) lo hi v) true hok = stepOf lo hi h ix sr n g := by
  subst hv hw; rfl

/-- The masked scatter-add, at the step `n` of a pass: the buffer at `g` goes to the buffer at `stepOf … n g`. -/
theorem wp_scatStep (ix : S16384.Idx → Elt F .i32) (sr : S16384.Idx → Elt F .f32) {off : ℕ} {fs : S8192.Idx → Elt F .f32} (hfs : Chunk sr off fs)
    {n m : ℕ} (hn : n < 1024) (hm : off + 16 * m = 16 * n) {oi os : Fin 1 → ℕ} (hoi : oi = ![16 * n]) (hos : os = ![16 * m])
    (hbi : ∀ a, oi a + S16.size a ≤ S16384.size a) (hbs : ∀ a, os a + S16.size a ≤ S8192.size a) (g : Vec F S50048 .f32) :
    iprop(idxPts d i ix ∗ srcPts d i fs ∗ Held (F := F) d i B (fun g' => g' = g))
      ⊢ wp frame (wpE (defs₀ (F := F)) 𝒱₀ (thr d i) none) Set.univ (scatStep i B lo hi oi os hbi hbs)
          fun _ => iprop(idxPts d i ix ∗ srcPts d i fs ∗ Held (F := F) d i B (fun g' => g' = stepOf lo hi h ix sr n g)) := by
  unfold scatStep Held
  simp only [Prog.lift, Prog.bind_op, Prog.bind_ret, Prog.pure_eq_ret]
  iintro ⟨Hi, Hs, %f, %hf, H⟩
  iapply (wp_load 𝒱₀ (thr d i) none Set.univ (m := idxS) (S := Finset.univ) (Finset.subset_univ _)) $$ Hi
  iintro Hi
  iapply (wp_load 𝒱₀ (thr d i) none Set.univ (m := srcS) (S := Finset.univ) (Finset.subset_univ _)) $$ Hs
  iintro Hs
  iapply (wp_assume 𝒱₀ (thr d i) none Set.univ (colOk (F := F) h (idxS.view.readAt (Elt F) (Rect.unit (s := S16384) oi S16.size hbi).toLoadRect ix)))
  ihave H' := (Entails.of_eq (show (B.view.loc (thr d i) ↦[B.view.set]{fullShare} f : sProp 𝕄)
    = ((B.access (.whole S50048)).loc (thr d i) ↦[(B.access (.whole S50048)).set]{fullShare} f) by rw [set_access_whole])) $$ H
  iapply (SparseCore.wp_vectorStoreIdx 𝒱₀ (thr d i) none Set.univ (base := B)) $$ H'
  iintro H
  rw [wp_ret]; imodintro
  isplitl [Hi]; · iexact Hi
  isplitl [Hs]; · iexact Hs
  iexists _
  isplitr
  rotate_left
  · rw [set_access_whole]; iexact H
  ipureintro
  rw [read_write_access_whole, read_access_whole, hf]
  exact step_eq lo hi h ix sr g (read_idx ix hoi hn hbi) (read_src sr hfs hos hm hbs) _

/-- A trip of the first scatter loop is step `k` of the pass, a trip of the second step `512 + k`. -/
theorem wp_scatLoopA (ix : S16384.Idx → Elt F .i32) (sr : S16384.Idx → Elt F .f32) {fs : S8192.Idx → Elt F .f32} (hfs : Chunk sr 0 fs) :
    iprop(idxPts d i ix ∗ srcPts d i fs ∗ Held (F := F) d i B (fun g => g = rowAcc lo hi h ix sr 0))
      ⊢ wp frame (wpE (defs₀ (F := F)) 𝒱₀ (thr d i) none) Set.univ (Scf.Loop.for k0_t2_loop k0_t2_ok 0#32 (scatTripA i B lo hi))
          fun _ => iprop(idxPts d i ix ∗ srcPts d i fs ∗ Held (F := F) d i B (fun g => g = rowAcc lo hi h ix sr 512)) := by
  iintro H
  iapply (Scf.wp_for frame _ _ _ _ _ k0_t2_ok 0#32 (scatTripA i B lo hi)
    (fun k _ => iprop(idxPts d i ix ∗ srcPts d i fs ∗ Held (F := F) d i B (fun g => g = rowAcc lo hi h ix sr k)))
    (fun k acc => wp_scatStep d i B lo hi h ix sr hfs (n := k.val) (m := k.val)
      (lt_trans (lt_of_lt_of_eq k.isLt (show k0_t2_loop.trips = 512 by decide)) (by decide)) (by omega) (k0_off3_eq k) (k0_off4_eq k) _ _ _))
  isplitl; · iexact H
  iintro %acc H
  iexact H

theorem wp_scatLoopB (ix : S16384.Idx → Elt F .i32) (sr : S16384.Idx → Elt F .f32) {fs : S8192.Idx → Elt F .f32} (hfs : Chunk sr 8192 fs) :
    iprop(idxPts d i ix ∗ srcPts d i fs ∗ Held (F := F) d i B (fun g => g = rowAcc lo hi h ix sr 512))
      ⊢ wp frame (wpE (defs₀ (F := F)) 𝒱₀ (thr d i) none) Set.univ (Scf.Loop.for k0_t3_loop k0_t3_ok 0#32 (scatTripB i B lo hi))
          fun _ => iprop(idxPts d i ix ∗ srcPts d i fs ∗ Held (F := F) d i B (fun g => g = rowAcc lo hi h ix sr 1024)) := by
  iintro H
  iapply (Scf.wp_for frame _ _ _ _ _ k0_t3_ok 0#32 (scatTripB i B lo hi)
    (fun k _ => iprop(idxPts d i ix ∗ srcPts d i fs ∗ Held (F := F) d i B (fun g => g = rowAcc lo hi h ix sr (512 + k))))
    (fun k acc => wp_scatStep d i B lo hi h ix sr hfs (n := 512 + k.val) (m := k.val)
      (by have := lt_of_lt_of_eq k.isLt (show k0_t3_loop.trips = 512 by decide); omega) (by omega)
      ((k0_off6_eq k).trans (by rw [show 16 * k.val + 8192 = 16 * (512 + k.val) by omega])) (k0_off7_eq k) _ _ _))
  isplitl; · iexact H
  iintro %acc H
  iexact H

/-! ## A chunk of a source row staged -/

/-- The chunk of the source that starts at `o`. -/
abbrev chunkOf (o : Fin 2 → ℕ) (ho : ∀ a, o a + S1x8192.size a ≤ S128x16384.size a) : Memref sig .scVector .hbm S8192 .f32 :=
  (srcV.slice (Rect.unit (s := S128x16384) o S1x8192.size ho) (fun _ => rfl)).squeeze S8192 squeezes_S1x8192_S8192

omit [FloatOps F] in
theorem chunk_read (src : S128x16384.Idx → Elt F .f32) {r : Fin 128} {off : ℕ} {o : Fin 2 → ℕ} (hr : o = ![r.val, off])
    (ho : ∀ a, o a + S1x8192.size a ≤ S128x16384.size a) : Chunk (srcRow src r) off ((chunkOf o ho).view.read (Elt F) src) := by
  subst hr
  intro y
  have hy : (y 0).val < 8192 := (y 0).isLt
  have ho1 : off + 8192 ≤ 16384 := ho 1
  refine (View.read_apply _ _).trans ((cast_eq _ _).trans ?_)
  show src ((Rect.unit (s := S128x16384) ![r.val, off] S1x8192.size ho).emb (Shape.reshapeEquiv squeezes_S1x8192_S8192.numel_eq y)) = src (srcAt r (place (off + (y 0).val)))
  rw [Shape.reshapeEquiv_cons_one]
  congr 1
  funext a
  apply Fin.ext
  rw [Rect.emb_apply]
  match a with
  | 0 => show r.val + 1 * 0 = r.val; omega
  | 1 => show off + 1 * (y 0).val = (off + (y 0).val) % 16384; omega

/-- The source, read at a share. -/
abbrev srcTab (q : PosShare TreeShare) (src : S128x16384.Idx → Elt F .f32) : sProp 𝕄 := (thr d i).loc main_arg2_scv ↦{q} src

variable (O : CellTallies nD τ sig (HIx 1))

theorem wp_stage {q : PosShare TreeShare} (src : S128x16384.Idx → Elt F .f32) {r : Fin 128} {off : ℕ} {o : Fin 2 → ℕ} (hr : o = ![r.val, off])
    (ho : ∀ a, o a + S1x8192.size a ≤ S128x16384.size a) (hV : (chunkOf o ho).view.WordExact) (sm : DmaSems sig S_) (W : Waits sig (HIx 1)) :
    iprop((∃ fs, srcPts (F := F) d i fs) ∗ srcTab d i q src ∗ semVal (thr d i, .dma sm.sem) 0 ∗ MayWaits (thr d i) none O ∗ owes (thr d i) O W)
      ⊢ wp frame (wpE (defs₀ (F := F)) 𝒱₀ (thr d i) none) Set.univ (stage i (chunkOf o ho) hV sm)
          fun _ => iprop((∃ fs, ⌜Chunk (srcRow src r) off fs⌝ ∗ srcPts (F := F) d i fs) ∗ srcTab d i q src ∗ semVal (thr d i, .dma sm.sem) 0
            ∗ owes (thr d i) O (insert (SemLoc.dma sm.sem, none) W)) := by
  unfold stage
  simp only [Prog.lift, Prog.bind_op, Prog.bind_ret, Prog.pure_eq_ret]
  iintro ⟨⟨%fs, Hs⟩, Ht, Hv, #Hmw, HO⟩
  ihave Hc := (pointsTo_split_subset (I := (chunkOf o ho).view.set) (Finset.subset_univ _)).1 $$ Ht
  icases Hc with ⟨Hc, Hrest⟩
  iapply (wp_dmaLocal EC 𝒱₀ (thr d i) none (src := chunkOf o ho) (dst := srcS) (sm := .dma sm.sem) (q := q) (fs := src) (Sd := Finset.univ) (fd := fs)
    none srcS.view.dmaCredit rfl (View.dmaCredit_pos _ (by decide)) (Finset.subset_univ _)) $$ [Hc Hs Hv]
  · isplitl [Hc]; · iexact Hc
    isplitl [Hs]; · iexact Hs
    iexact Hv
  iintro Hfl
  iapply (wp_waitLocalO EC 𝒱₀ (thr d i) none none (N := srcS.view.dmaCredit) rfl (O := O) (W := W)) $$ [Hfl HO]
  · isplitl [Hfl]; · iexact Hfl
    isplitl [HO]; · iexact HO
    iapply (MayWaits.elim _) $$ Hmw
  iintro ⟨⟨Hs, Hc⟩, Hv, HO⟩
  rw [wp_ret]; imodintro
  isplitl [Hs]
  · iexists _
    isplitr
    rotate_left
    · iexact Hs
    ipureintro
    rw [show srcS.view.write (Elt F) fs (ReadAs.same.apply ((chunkOf o ho).view.read (Elt F) src)) Finset.univ = (chunkOf o ho).view.read (Elt F) src from
      View.write_whole_univ _ _ _]
    exact chunk_read src hr ho
  isplitl [Hc Hrest]
  · iapply (pointsTo_split_subset (I := (chunkOf o ho).view.set) (Finset.subset_univ _)).2
    isplitl [Hc]; · iexact Hc
    iexact Hrest
  isplitl [Hv]; · iexact Hv
  iexact HO

/-! ## A pass -/

/-- The waits recorded beyond `W` are the kernel's own. -/
def Owns (W : Waits sig (HIx 1)) : sProp 𝕄 := iprop(∃ W', ⌜∀ p ∈ W', p ∈ W ∨ p.2 = none⌝ ∗ owes (thr d i) O W')

omit [FloatOps F] in
theorem waits_insert {W W' : Waits sig (HIx 1)} {sl : SemLoc sig} (hW : ∀ p ∈ W', p ∈ W ∨ p.2 = none) :
    ∀ p ∈ insert (sl, (none : HIx 1)) W', p ∈ W ∨ p.2 = none := fun p hp => by
  rcases Finset.mem_insert.mp hp with rfl | hp
  · exact .inr rfl
  · exact hW p hp

/-- The row of the source and of the result that a tile's pass of row `c` works on. -/
def rowOf (i : grid0.Coords) (c : Fin 4) : Fin 128 := ⟨8 * (i 1).val + 4 * (i 0).val + c.val, by
  have h1 : (i 1).val < 16 := (i 1).isLt
  have h0 : (i 0).val < 2 := (i 0).isLt
  omega⟩

/-- A pass leaves its buffer at the row's sums over all 1024 steps. -/
theorem wp_pass (ix : S16384.Idx → Elt F .i32) {q : PosShare TreeShare} (src : S128x16384.Idx → Elt F .f32) (c : Fin 4) (s1 s2 : DmaSems sig S_) (W : Waits sig (HIx 1)) :
    iprop((idxPts d i ix ∗ (∃ fs, srcPts (F := F) d i fs) ∗ srcTab d i q src ∗ MayWaits (thr d i) none O ∗ Owns (F := F) d i O W)
        ∗ Held (F := F) d i B (fun _ => True) ∗ semVal (thr d i, .dma s1.sem) 0 ∗ semVal (thr d i, .dma s2.sem) 0)
      ⊢ wp frame (wpE (defs₀ (F := F)) 𝒱₀ (thr d i) none) Set.univ (passProg i B lo hi c s1 s2)
          fun _ => iprop((idxPts d i ix ∗ (∃ fs, srcPts (F := F) d i fs) ∗ srcTab d i q src ∗ MayWaits (thr d i) none O ∗ Owns (F := F) d i O W)
            ∗ Held (F := F) d i B (fun g => g = rowAcc lo hi h ix (srcRow src (rowOf i c)) 1024) ∗ semVal (thr d i, .dma s1.sem) 0 ∗ semVal (thr d i, .dma s2.sem) 0) := by
  unfold passProg Owns
  simp only [wp_bind, wp_pure]
  iintro ⟨⟨Hi, Hs, Ht, #Hmw, %W', %hW, HO⟩, HB, Hv1, Hv2⟩
  iapply (wp_wand_r frame _ _)
  isplitl [HB]; · iapply (wp_zeroLoop d i B) $$ HB
  iintro %_ HB
  iapply (wp_wand_r frame _ _)
  isplitl [Hs Ht Hv1 HO]
  · iapply (wp_stage d i O src (r := rowOf i c) (off := 0) (k0_off2_eq i c) _ _ s1 W')
    isplitl [Hs]; · iexact Hs
    isplitl [Ht]; · iexact Ht
    isplitl [Hv1]; · iexact Hv1
    isplitr; · iexact Hmw
    iexact HO
  iintro %_ ⟨⟨%fs, %hfs, Hs⟩, Ht, Hv1, HO⟩
  iapply (wp_wand_r frame _ _)
  isplitl [Hi Hs HB]
  · iapply (wp_scatLoopA d i B lo hi h ix _ hfs)
    isplitl [Hi]; · iexact Hi
    isplitl [Hs]; · iexact Hs
    iexact HB
  iintro %_ ⟨Hi, Hs, HB⟩
  iapply (wp_wand_r frame _ _)
  isplitl [Hs Ht Hv2 HO]
  · iapply (wp_stage d i O src (r := rowOf i c) (off := 8192) (k0_off5_eq i c) _ _ s2 _)
    isplitl [Hs]; · iexists _; iexact Hs
    isplitl [Ht]; · iexact Ht
    isplitl [Hv2]; · iexact Hv2
    isplitr; · iexact Hmw
    iexact HO
  iintro %_ ⟨⟨%fs', %hfs', Hs⟩, Ht, Hv2, HO⟩
  iapply (wp_wand_r frame _ _)
  isplitl [Hi Hs HB]
  · iapply (wp_scatLoopB d i B lo hi h ix _ hfs')
    isplitl [Hi]; · iexact Hi
    isplitl [Hs]; · iexact Hs
    iexact HB
  iintro %_ ⟨Hi, Hs, HB⟩
  imodintro
  isplitl [Hi Hs Ht HO]
  · isplitl [Hi]; · iexact Hi
    isplitl [Hs]; · iexists _; iexact Hs
    isplitl [Ht]; · iexact Ht
    isplitr; · iexact Hmw
    iexists _
    isplitr
    rotate_left
    · iexact HO
    ipureintro
    exact waits_insert (waits_insert hW)
  isplitl [HB]; · iexact HB
  isplitl [Hv1]; · iexact Hv1
  iexact Hv2

end Tile

end Cert.Proof.Delta

end
-- ==== Proof.Tile.lean ====
/-
  A tile's body from end to end: the copies of its buffers to the rows of the result, and the eight passes in the order
  the program runs them.
-/
module

public import proofs.«01_k».proof.Proof.Body

@[expose] public section

noncomputable section

namespace Cert.Proof.Delta

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 1) (Elt F) ℕ UU ℕ

/-! ## The half rows of the result -/

/-- Half `a` of row `r`. -/
def half (a r : ℕ) : Finset S2x128x50048.Idx := Finset.univ.filter fun z => (z 0).val = a ∧ (z 1).val = r

theorem mem_half {a r : ℕ} {z : S2x128x50048.Idx} : z ∈ half a r ↔ (z 0).val = a ∧ (z 1).val = r := by
  unfold half; rw [Finset.mem_filter]; exact ⟨fun h => h.2, fun h => ⟨Finset.mem_univ _, h⟩⟩

/-- The half row that starts at `o`. -/
abbrev outOf (o : Fin 3 → ℕ) (ho : ∀ a, o a + S1x1x50048.size a ≤ S2x128x50048.size a) : Memref sig .scVector .hbm S50048 .f32 :=
  (dltV.slice (Rect.unit (s := S2x128x50048) o S1x1x50048.size ho) (fun _ => rfl)).squeeze S50048 squeezes_S1x1x50048_S50048

theorem out_set {a r : ℕ} {o : Fin 3 → ℕ} (hr : o = ![a, r, 0]) (ho : ∀ b, o b + S1x1x50048.size b ≤ S2x128x50048.size b) :
    (outOf o ho).view.set = half a r := by
  subst hr
  refine (View.set_reshape (v := dltV.view.slice (Rect.unit (s := S2x128x50048) ![a, r, 0] S1x1x50048.size ho)) _).trans ?_
  refine (View.set_slice_whole _ _).trans ?_
  ext z
  rw [mem_half]
  refine Rect.mem_set_unit.trans ⟨fun h => ⟨?_, ?_⟩, fun h b => ?_⟩
  · have h0 : a ≤ (z 0).val ∧ (z 0).val < a + 1 := h 0
    omega
  · have h1 : r ≤ (z 1).val ∧ (z 1).val < r + 1 := h 1
    omega
  · match b with
    | 0 => exact ⟨h.1.ge, by show (z 0).val < a + 1; omega⟩
    | 1 => exact ⟨h.2.ge, by show (z 1).val < r + 1; omega⟩
    | 2 => exact ⟨Nat.zero_le _, by have := (z 2).isLt; show (z 2).val < 0 + 50048; rw [Nat.zero_add]; exact this⟩

/-- The place of column `x` in a half row. -/
theorem out_emb_col {a r : ℕ} {o : Fin 3 → ℕ} (hr : o = ![a, r, 0]) (ho : ∀ b, o b + S1x1x50048.size b ≤ S2x128x50048.size b) (x : S50048.Idx) :
    colAt ((outOf o ho).view.emb x) = x := by
  subst hr
  funext b
  obtain rfl : b = 0 := Subsingleton.elim _ _
  apply Fin.ext
  show ((Rect.unit (s := S2x128x50048) ![a, r, 0] S1x1x50048.size ho).emb (Shape.reshapeEquiv squeezes_S1x1x50048_S50048.numel_eq x) 2).val = (x 0).val
  rw [Rect.emb_apply, show Shape.reshapeEquiv squeezes_S1x1x50048_S50048.numel_eq x
      = (Fin.cons ⟨0, Nat.one_pos⟩ (Fin.cons ⟨0, Nat.one_pos⟩ x : (⟨2, ![1, 50048]⟩ : Shape).Idx) : S1x1x50048.Idx) from
    Shape.reshapeEquiv_eq_of_rowMajor _ (by
      rw [Shape.rowMajor_val_three, Shape.rowMajor_val_one]
      show (0 * 1 + 0) * 50048 + (x 0).val = (x 0).val
      omega)]
  show 0 + 1 * (x 0).val = (x 0).val
  omega

theorem out_contents {a r : ℕ} {o : Fin 3 → ℕ} (hr : o = ![a, r, 0]) (ho : ∀ b, o b + S1x1x50048.size b ≤ S2x128x50048.size b)
    (g : Vec F S50048 .f32) (dl : S2x128x50048.Idx → Elt F .f32) (hdl : ∀ z ∈ half a r, dl z = g (colAt z)) (fd : S2x128x50048.Idx → Elt F .f32)
    (w : Vec F S50048 .f32) (hw : w = g) :
    ∀ z ∈ (outOf o ho).view.set, (outOf o ho).view.write (Elt F) fd w Finset.univ z = dl z := by
  subst hw
  intro z hz
  obtain ⟨x, -, rfl⟩ := Finset.mem_map.mp hz
  have hm : (outOf o ho).view.emb x ∈ half a r := out_set hr ho ▸ View.emb_mem_set _ x
  rw [hdl _ hm, out_emb_col hr ho x]
  exact (cast_eq _ _).symm.trans ((View.read_apply _ _).symm.trans (congrFun (View.read_write_univ _ _) x))

section Tile

variable (d : Dev nD) (i : grid0.Coords) (B : Memref sig .scVector .vmem S50048 .f32) (O : CellTallies nD τ sig (HIx 1))

/-- Elements `I` of the result, as the tile names it. -/
abbrev dltPts (I : Finset S2x128x50048.Idx) (f : S2x128x50048.Idx → Elt F .f32) : sProp 𝕄 := (thr d i).loc main_v0_scv ↦[I]{fullShare} f

/-- A copy out under way: its buffer held `g`. -/
def OutFlight (o : Fin 3 → ℕ) (ho : ∀ b, o b + S1x1x50048.size b ≤ S2x128x50048.size b) (sm : DmaSems sig S_) (g : Vec F S50048 .f32) : sProp 𝕄 :=
  iprop(∃ f fd, ⌜B.view.read (Elt F) f = g⌝ ∗ Flight EC (thr d i) (.dma sm.sem) none (outOf o ho).view.dmaCredit
    iprop(((outOf o ho).view.loc (thr d i) ↦[(outOf o ho).view.set]{fullShare} ((outOf o ho).view.write (Elt F) fd (B.view.read (Elt F) f) Finset.univ))
      ∗ (B.view.loc (thr d i) ↦[B.view.set]{fullShare} f)))

theorem wp_outStart {a r : ℕ} {o : Fin 3 → ℕ} (hr : o = ![a, r, 0]) (ho : ∀ b, o b + S1x1x50048.size b ≤ S2x128x50048.size b)
    (hB : B.view.WordExact) (hV : (outOf o ho).view.WordExact) (sm : DmaSems sig S_) (g : Vec F S50048 .f32) (f₀ : S2x128x50048.Idx → Elt F .f32) :
    iprop(Held (F := F) d i B (fun g' => g' = g) ∗ dltPts d i (half a r) f₀ ∗ semVal (thr d i, .dma sm.sem) 0)
      ⊢ wp frame (wpE (defs₀ (F := F)) 𝒱₀ (thr d i) none) Set.univ (outStart i B hB (outOf o ho) hV sm) fun _ => OutFlight (F := F) d i B o ho sm g := by
  unfold outStart OutFlight Held
  simp only [Prog.lift]
  iintro ⟨⟨%f, %hf, HB⟩, Ho, Hv⟩
  ihave Ho' := (Entails.of_eq (show dltPts d i (half a r) f₀ = ((outOf o ho).view.loc (thr d i) ↦[(outOf o ho).view.set]{fullShare} f₀ : sProp 𝕄) by
    rw [out_set hr])) $$ Ho
  iapply (wp_dmaLocal EC 𝒱₀ (thr d i) none (src := B) (dst := outOf o ho) (sm := .dma sm.sem) (q := fullShare) (fs := f) (Sd := (outOf o ho).view.set) (fd := f₀)
    none (outOf o ho).view.dmaCredit rfl (View.dmaCredit_pos _ (by decide)) (fun _ hx => hx)) $$ [HB Ho' Hv]
  · isplitl [HB]; · iexact HB
    isplitl [Ho']; · iexact Ho'
    iexact Hv
  iintro Hfl
  rw [wp_ret]; imodintro
  iexists f, f₀
  isplitr; · ipureintro; exact hf
  iexact Hfl

/-- The copy waited for: the half row holds what `dl` is there. -/
theorem wp_outWait {a r : ℕ} {o : Fin 3 → ℕ} (hr : o = ![a, r, 0]) (ho : ∀ b, o b + S1x1x50048.size b ≤ S2x128x50048.size b)
    (hB : B.view.WordExact) (hV : (outOf o ho).view.WordExact) (sm : DmaSems sig S_) (g : Vec F S50048 .f32) (dl : S2x128x50048.Idx → Elt F .f32)
    (hdl : ∀ z ∈ half a r, dl z = g (colAt z)) (W : Waits sig (HIx 1)) :
    iprop(OutFlight (F := F) d i B o ho sm g ∗ MayWaits (thr d i) none O ∗ Owns (F := F) d i O W)
      ⊢ wp frame (wpE (defs₀ (F := F)) 𝒱₀ (thr d i) none) Set.univ (outWait i B hB (outOf o ho) hV sm)
          fun _ => iprop(Held (F := F) d i B (fun _ => True) ∗ dltPts d i (half a r) dl ∗ semVal (thr d i, .dma sm.sem) 0 ∗ Owns (F := F) d i O W) := by
  unfold outWait OutFlight Held Owns
  simp only [Prog.lift]
  iintro ⟨⟨%f, %fd, %hf, Hfl⟩, #Hmw, %W', %hW, HO⟩
  iapply (wp_waitLocalO EC 𝒱₀ (thr d i) none none (N := (outOf o ho).view.dmaCredit) rfl (O := O) (W := W')) $$ [Hfl HO]
  · isplitl [Hfl]; · iexact Hfl
    isplitl [HO]; · iexact HO
    iapply (MayWaits.elim _) $$ Hmw
  iintro ⟨⟨Ho, HB⟩, Hv, HO⟩
  rw [wp_ret]; imodintro
  isplitl [HB]
  · iexists f
    isplitr; · ipureintro; trivial
    iexact HB
  isplitl [Ho]
  · iapply (Entails.of_eq ((pointsTo_congr (out_contents hr ho g dl hdl fd _ hf)).trans
      (show ((outOf o ho).view.loc (thr d i) ↦[(outOf o ho).view.set]{fullShare} dl : sProp 𝕄) = dltPts d i (half a r) dl by rw [out_set hr]))) $$ Ho
  isplitl [Hv]; · iexact Hv
  iexists _
  isplitr
  rotate_left
  · iexact HO
  ipureintro
  exact waits_insert hW

/-! ## The body -/

variable (ix : S16384.Idx → Elt F .i32) (src : S128x16384.Idx → Elt F .f32) (q : PosShare TreeShare) (W : Waits sig (HIx 1))

/-- What every pass keeps: the tile's indices, the chunk buffer, the source at a share, the right to wait and its record. -/
def Kept : sProp 𝕄 :=
  iprop(idxPts d i ix ∗ (∃ fs, srcPts (F := F) d i fs) ∗ srcTab d i q src ∗ MayWaits (thr d i) none O ∗ Owns (F := F) d i O W)

/-- A semaphore of the tile at zero. -/
abbrev sem0 (s : DmaSems sig S_) : sProp 𝕄 := semVal (thr d i, .dma s.sem) 0

theorem run_pass {lo hi : BitVec 32} (a : ℕ) (hl : lo = loOf a) (hh : hi = hiOf a) (c : Fin 4) (s1 s2 : DmaSems sig S_) {o : Fin 3 → ℕ} (hr : o = ![a, (rowOf i c).val, 0])
    (ho : ∀ b, o b + S1x1x50048.size b ≤ S2x128x50048.size b) (hB : B.view.WordExact) (hV : (outOf o ho).view.WordExact) (sm : DmaSems sig S_)
    (f₀ : S2x128x50048.Idx → Elt F .f32) {α : Type} {kk : Prog (TpuEff nD τ sig (Elt F) Λ₀ (Tile i)) α} {Q : α → sProp 𝕄} :
    Kept d i O ix src q W ⊢ iprop(Held (F := F) d i B (fun _ => True) -∗ sem0 d i s1 -∗ sem0 d i s2 -∗ dltPts d i (half a (rowOf i c)) f₀ -∗ sem0 d i sm
      -∗ (iprop(Kept d i O ix src q W ∗ sem0 d i s1 ∗ sem0 d i s2
            ∗ OutFlight (F := F) d i B o ho sm (rowAcc (loOf a) (hiOf a) (isHalf_of a) ix (srcRow src (rowOf i c)) 1024))
          -∗ wp frame (wpE (defs₀ (F := F)) 𝒱₀ (thr d i) none) Set.univ kk Q)
      -∗ wp frame (wpE (defs₀ (F := F)) 𝒱₀ (thr d i) none) Set.univ
          (passProg i B lo hi c s1 s2 >>= fun _ => outStart i B hB (outOf o ho) hV sm >>= fun _ => kk) Q) := by
  subst hl hh
  simp only [wp_bind]
  iintro HK HB H1 H2 Ho Hs Hk
  iapply (wp_wand_r frame _ _)
  isplitl [HK HB H1 H2]
  · iapply (wp_pass d i B _ _ (isHalf_of a) O ix src c s1 s2 W)
    isplitl [HK]; · unfold Kept; iexact HK
    isplitl [HB]; · iexact HB
    isplitl [H1] <;> iassumption
  iintro %_ ⟨HK, HB, H1, H2⟩
  iapply (wp_wand_r frame _ _)
  isplitl [HB Ho Hs]
  · iapply (wp_outStart d i B hr ho hB hV sm _ f₀)
    isplitl [HB]; · iexact HB
    isplitl [Ho] <;> iassumption
  iintro %_ Hfl
  iapply Hk
  isplitl [HK]; · unfold Kept; iexact HK
  isplitl [H1]; · iexact H1
  isplitl [H2] <;> iassumption

/-- A half row holds `delta` where its buffer held the row's sums. -/
theorem delta_half {a : ℕ} {r : Fin 128} : ∀ z ∈ half a r.val, delta (F := F) ix src z = rowAcc (loOf a) (hiOf a) (isHalf_of a) ix (srcRow src r) 1024 (colAt z) := by
  intro z hz
  obtain ⟨rfl, h1⟩ := mem_half.mp hz
  obtain rfl : z 1 = r := Fin.ext h1
  rfl

theorem run_wait {o : Fin 3 → ℕ} {a : ℕ} {c : Fin 4} (hr : o = ![a, (rowOf i c).val, 0]) (ho : ∀ b, o b + S1x1x50048.size b ≤ S2x128x50048.size b)
    (hB : B.view.WordExact) (hV : (outOf o ho).view.WordExact) (sm : DmaSems sig S_)
    {α : Type} {kk : Prog (TpuEff nD τ sig (Elt F) Λ₀ (Tile i)) α} {Q : α → sProp 𝕄} :
    Kept d i O ix src q W ⊢ iprop(OutFlight (F := F) d i B o ho sm (rowAcc (loOf a) (hiOf a) (isHalf_of a) ix (srcRow src (rowOf i c)) 1024)
      -∗ (iprop(Kept d i O ix src q W ∗ Held (F := F) d i B (fun _ => True) ∗ dltPts d i (half a (rowOf i c)) (delta ix src) ∗ sem0 d i sm)
          -∗ wp frame (wpE (defs₀ (F := F)) 𝒱₀ (thr d i) none) Set.univ kk Q)
      -∗ wp frame (wpE (defs₀ (F := F)) 𝒱₀ (thr d i) none) Set.univ (outWait i B hB (outOf o ho) hV sm >>= fun _ => kk) Q) := by
  unfold Kept
  simp only [wp_bind]
  iintro ⟨Hi, Hs, Ht, #Hmw, HO⟩ Hfl Hk
  iapply (wp_wand_r frame _ _)
  isplitl [Hfl HO]
  · iapply (wp_outWait d i B O hr ho hB hV sm _ (delta ix src) (delta_half ix src) W)
    isplitl [Hfl]; · iexact Hfl
    isplitr; · iexact Hmw
    iexact HO
  iintro %_ ⟨HB, Ho, Hv, HO⟩
  iapply Hk
  isplitl [Hi Hs Ht HO]
  · isplitl [Hi]; · iexact Hi
    isplitl [Hs]; · iexact Hs
    isplitl [Ht]; · iexact Ht
    isplitr; · iexact Hmw
    iexact HO
  isplitl [HB]; · iexact HB
  isplitl [Ho] <;> iassumption

/-- The indices, read at a share. -/
abbrev idxTab : sProp 𝕄 := (thr d i).loc main_arg1_scv ↦{q} ix

/-- The indices staged into the tile. -/
theorem run_idx (q' : PosShare TreeShare) {α : Type} {kk : Prog (TpuEff nD τ sig (Elt F) Λ₀ (Tile i)) α} {Q : α → sProp 𝕄} :
    iprop((∃ f, idxPts (F := F) d i f) ∗ (∃ fs, srcPts (F := F) d i fs) ∗ srcTab d i q src ∗ MayWaits (thr d i) none O ∗ Owns (F := F) d i O W)
      ⊢ iprop(idxTab d i ix q' -∗ sem0 d i cc0_scoped0
      -∗ (iprop(Kept d i O ix src q W ∗ idxTab d i ix q' ∗ sem0 d i cc0_scoped0) -∗ wp frame (wpE (defs₀ (F := F)) 𝒱₀ (thr d i) none) Set.univ kk Q)
      -∗ wp frame (wpE (defs₀ (F := F)) 𝒱₀ (thr d i) none) Set.univ
          (Prog.lift (.enqueueDma idxV (.here idxS) (.dma cc0_scoped0.sem) (Memref.isWhole_whole _).wordExact (Memref.isWhole_whole _).wordExact ⟨Or.inl rfl, trivial⟩)
            >>= fun _ => Prog.lift (.waitDma2 cc0_scoped0.sem idxV idxS (Memref.isWhole_whole _).wordExact (Memref.isWhole_whole _).wordExact) >>= fun _ => kk) Q) := by
  unfold Kept Owns
  simp only [Prog.lift, Prog.bind_op, Prog.bind_ret]
  iintro ⟨⟨%f, Hi⟩, Hs, Ht, #Hmw, %W', %hW, HO⟩ Hx Hv Hk
  ihave Hx' := (Entails.of_eq (show idxTab d i ix q' = (idxV.view.loc (thr d i) ↦[idxV.view.set]{q'} ix : sProp 𝕄) by
    simp only [Memref.view_whole, View.set_whole])) $$ Hx
  iapply (wp_dmaLocal EC 𝒱₀ (thr d i) none (src := idxV) (dst := idxS) (sm := .dma cc0_scoped0.sem) (q := q') (fs := ix) (Sd := Finset.univ) (fd := f)
    none idxS.view.dmaCredit rfl (View.dmaCredit_pos _ (by decide)) (Finset.subset_univ _)) $$ [Hx' Hi Hv]
  · isplitl [Hx']; · iexact Hx'
    isplitl [Hi]; · iexact Hi
    iexact Hv
  iintro Hfl
  iapply (wp_waitLocalO EC 𝒱₀ (thr d i) none none (N := idxS.view.dmaCredit) rfl (O := O) (W := W')) $$ [Hfl HO]
  · isplitl [Hfl]; · iexact Hfl
    isplitl [HO]; · iexact HO
    iapply (MayWaits.elim _) $$ Hmw
  iintro ⟨⟨Hi, Hx⟩, Hv, HO⟩
  iapply Hk
  rw [show idxS.view.write (Elt F) f (ReadAs.same.apply (idxV.view.read (Elt F) ix)) Finset.univ = ix from
    (View.write_whole_univ _ _ _).trans (View.read_whole _ _)]
  isplitl [Hi Hs Ht HO]
  · isplitl [Hi]; · iexact Hi
    isplitl [Hs]; · iexact Hs
    isplitl [Ht]; · iexact Ht
    isplitr; · iexact Hmw
    iexists _
    isplitr
    rotate_left
    · iexact HO
    ipureintro
    exact waits_insert hW
  isplitl [Hx]
  · simp only [Memref.view_whole, View.set_whole]; iexact Hx
  iexact Hv

/-- The eight half rows a tile fills. -/
abbrev rows (f : S2x128x50048.Idx → Elt F .f32) : sProp 𝕄 :=
  iprop(dltPts d i (half 0 (rowOf i 0)) f ∗ dltPts d i (half 0 (rowOf i 1)) f ∗ dltPts d i (half 0 (rowOf i 2)) f ∗ dltPts d i (half 0 (rowOf i 3)) f
    ∗ dltPts d i (half 1 (rowOf i 0)) f ∗ dltPts d i (half 1 (rowOf i 1)) f ∗ dltPts d i (half 1 (rowOf i 2)) f ∗ dltPts d i (half 1 (rowOf i 3)) f)

/-- The semaphores the body uses, at zero. -/
abbrev sems : sProp 𝕄 :=
  iprop(sem0 d i semA ∗ sem0 d i semB ∗ sem0 d i cc0_scoped0 ∗ sem0 d i cc0_scoped1 ∗ sem0 d i cc0_scoped2 ∗ sem0 d i cc0_scoped3 ∗ sem0 d i cc0_scoped4
    ∗ sem0 d i cc0_scoped5 ∗ sem0 d i cc0_scoped6 ∗ sem0 d i cc0_scoped7 ∗ sem0 d i cc0_scoped8 ∗ sem0 d i cc0_scoped9 ∗ sem0 d i cc0_scoped10
    ∗ sem0 d i cc0_scoped11 ∗ sem0 d i cc0_scoped12 ∗ sem0 d i cc0_scoped13 ∗ sem0 d i cc0_scoped14 ∗ sem0 d i cc0_scoped15 ∗ sem0 d i cc0_scoped16)

/-- The scratches the body uses, at some contents. -/
abbrev bufs : sProp 𝕄 :=
  iprop((∃ f, idxPts (F := F) d i f) ∗ (∃ fs, srcPts (F := F) d i fs) ∗ Held (F := F) d i bufA (fun _ => True) ∗ Held (F := F) d i bufB (fun _ => True))

theorem wp_body (q' : PosShare TreeShare) (f₀ : S2x128x50048.Idx → Elt F .f32) :
    iprop(MayWaits (thr d i) none O ∗ Owns (F := F) d i O W ∗ (idxTab d i ix q' ∗ srcTab d i q src ∗ rows d i f₀) ∗ bufs (F := F) d i ∗ sems (F := F) d i)
      ⊢ wp frame (wpE (defs₀ (F := F)) 𝒱₀ (thr d i) none) Set.univ (bodyProg i)
          fun _ => iprop((idxTab d i ix q' ∗ srcTab d i q src ∗ rows d i (delta ix src)) ∗ bufs (F := F) d i ∗ sems (F := F) d i ∗ Owns (F := F) d i O W) := by
  unfold bodyProg
  iintro ⟨#Hmw, HO, ⟨Hx, Ht, R0, R1, R2, R3, R4, R5, R6, R7⟩, ⟨Hi, Hs, HA, HB⟩,
    SA, SB, s0, s1, s2, s3, s4, s5, s6, s7, s8, s9, s10, s11, s12, s13, s14, s15, s16⟩
  iapply (run_idx d i O ix src q W q') $$ [Hi Hs Ht HO] Hx s0
  · isplitl [Hi]; · iexact Hi
    isplitl [Hs]; · iexact Hs
    isplitl [Ht]; · iexact Ht
    isplitr; · iexact Hmw
    iexact HO
  iintro ⟨HK, Hx, s0⟩
  iapply (run_pass d i bufA O ix src q W 0 rfl rfl 0 cc0_scoped1 cc0_scoped2 (k0_off8_eq i 0) _ _ _ semA f₀) $$ HK HA s1 s2 R0 SA
  iintro ⟨HK, s1, s2, FA⟩
  iapply (run_pass d i bufB O ix src q W 0 rfl rfl 1 cc0_scoped3 cc0_scoped4 (k0_off8_eq i 1) _ _ _ semB f₀) $$ HK HB s3 s4 R1 SB
  iintro ⟨HK, s3, s4, FB⟩
  iapply (run_wait d i bufA O ix src q W (a := 0) (c := 0) (k0_off8_eq i 0) _ _ _ semA) $$ HK FA
  iintro ⟨HK, HA, R0, SA⟩
  iapply (run_pass d i bufA O ix src q W 0 rfl rfl 2 cc0_scoped5 cc0_scoped6 (k0_off8_eq i 2) _ _ _ semA f₀) $$ HK HA s5 s6 R2 SA
  iintro ⟨HK, s5, s6, FA⟩
  iapply (run_wait d i bufB O ix src q W (a := 0) (c := 1) (k0_off8_eq i 1) _ _ _ semB) $$ HK FB
  iintro ⟨HK, HB, R1, SB⟩
  iapply (run_pass d i bufB O ix src q W 0 rfl rfl 3 cc0_scoped7 cc0_scoped8 (k0_off8_eq i 3) _ _ _ semB f₀) $$ HK HB s7 s8 R3 SB
  iintro ⟨HK, s7, s8, FB⟩
  iapply (run_wait d i bufA O ix src q W (a := 0) (c := 2) (k0_off8_eq i 2) _ _ _ semA) $$ HK FA
  iintro ⟨HK, HA, R2, SA⟩
  iapply (run_pass d i bufA O ix src q W 1 rfl rfl 0 cc0_scoped9 cc0_scoped10 (k0_off29_eq i 0) _ _ _ semA f₀) $$ HK HA s9 s10 R4 SA
  iintro ⟨HK, s9, s10, FA⟩
  iapply (run_wait d i bufB O ix src q W (a := 0) (c := 3) (k0_off8_eq i 3) _ _ _ semB) $$ HK FB
  iintro ⟨HK, HB, R3, SB⟩
  iapply (run_pass d i bufB O ix src q W 1 rfl rfl 1 cc0_scoped11 cc0_scoped12 (k0_off29_eq i 1) _ _ _ semB f₀) $$ HK HB s11 s12 R5 SB
  iintro ⟨HK, s11, s12, FB⟩
  iapply (run_wait d i bufA O ix src q W (a := 1) (c := 0) (k0_off29_eq i 0) _ _ _ semA) $$ HK FA
  iintro ⟨HK, HA, R4, SA⟩
  iapply (run_pass d i bufA O ix src q W 1 rfl rfl 2 cc0_scoped13 cc0_scoped14 (k0_off29_eq i 2) _ _ _ semA f₀) $$ HK HA s13 s14 R6 SA
  iintro ⟨HK, s13, s14, FA⟩
  iapply (run_wait d i bufB O ix src q W (a := 1) (c := 1) (k0_off29_eq i 1) _ _ _ semB) $$ HK FB
  iintro ⟨HK, HB, R5, SB⟩
  iapply (run_pass d i bufB O ix src q W 1 rfl rfl 3 cc0_scoped15 cc0_scoped16 (k0_off29_eq i 3) _ _ _ semB f₀) $$ HK HB s15 s16 R7 SB
  iintro ⟨HK, s15, s16, FB⟩
  iapply (run_wait d i bufA O ix src q W (a := 1) (c := 2) (k0_off29_eq i 2) _ _ _ semA) $$ HK FA
  iintro ⟨HK, HA, R6, SA⟩
  iapply (run_wait d i bufB O ix src q W (a := 1) (c := 3) (k0_off29_eq i 3) _ _ _ semB) $$ HK FB
  iintro ⟨HK, HB, R7, SB⟩
  rw [wp_pure]; imodintro
  unfold Kept
  icases HK with ⟨Hi, Hs, Ht, -, HO⟩
  iframe Hx Ht R0 R1 R2 R3 R4 R5 R6 R7 Hs HA HB SA SB s0 s1 s2 s3 s4 s5 s6 s7 s8 s9 s10 s11 s12 s13 s14 s15 s16 HO
  iexists _; iexact Hi

end Tile

end Cert.Proof.Delta

end
-- ==== Proof.Task.lean ====
/-
  A tile's task as the launch theorem asks for it: the scratches and semaphores the body uses are split off the
  tile's own, the eight half rows it fills are one set of the result, and its tables are read at a share.
-/
module

public import proofs.«01_k».proof.Proof.Tile
public import Idealize.ShloMosaic.Lib.SparseCore.Quiescent
public import Idealize.ShloMosaic.Lib.Pipeline.Regions

@[expose] public section

noncomputable section

namespace Cert.Proof.Delta

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type}

local notation "𝕄" => MT nD τ sig (HIx 1) (Elt F) ℕ UU ℕ

/-- A sum over a set is the one over the members a one-to-one function names, and the one over the others. -/
theorem bigSep_named {I : Type} [DecidableEq I] {n : ℕ} {s : Finset I} {g : Fin n → I} (hg : Function.Injective g) (hs : ∀ j, g j ∈ s) (Φ : I → sProp 𝕄) :
    bigSep s Φ = iprop((bigSep Finset.univ fun j => Φ (g j)) ∗ bigSep (s \ Finset.univ.image g) Φ) := by
  have hsub : Finset.univ.image g ⊆ s := fun x hx => by
    obtain ⟨j, -, rfl⟩ := Finset.mem_image.mp hx
    exact hs j
  rw [← SparseCore.bigSep_image_of_injOn (hg.injOn (s := ↑(Finset.univ : Finset (Fin n)))) Φ]
  exact bigSep_sdiff_split hsub

/-! ## The tile's own semaphores and buffers -/

/-- The semaphores of the body, in the order of `sems`. -/
def semOf : Fin 19 → SemLoc sig :=
  ![.dma semA.sem, .dma semB.sem, .dma cc0_scoped0.sem, .dma cc0_scoped1.sem, .dma cc0_scoped2.sem, .dma cc0_scoped3.sem, .dma cc0_scoped4.sem,
    .dma cc0_scoped5.sem, .dma cc0_scoped6.sem, .dma cc0_scoped7.sem, .dma cc0_scoped8.sem, .dma cc0_scoped9.sem, .dma cc0_scoped10.sem,
    .dma cc0_scoped11.sem, .dma cc0_scoped12.sem, .dma cc0_scoped13.sem, .dma cc0_scoped14.sem, .dma cc0_scoped15.sem, .dma cc0_scoped16.sem]

theorem semOf_injective : Function.Injective semOf := by decide
theorem semOf_scoped (j : Fin 19) : (semOf j).isScoped .scVector = true := by revert j; decide

variable (d : Dev nD) (i : grid0.Coords)

theorem ownSems0_split :
    (ownSems0 (thr d i) : sProp 𝕄)
      = iprop(sems (F := F) d i ∗ bigSep (ownCells (thr d i) \ Finset.univ.image fun j => (thr d i, semOf j)) fun g => semVal g 0) := by
  unfold SparseCore.Cfg.ownSems0
  refine (bigSep_named (g := fun j : Fin 19 => ((thr d i, semOf j) : GSem nD τ sig))
    (fun a b h => semOf_injective (congrArg Prod.snd h)) (fun j => mem_ownCells.mpr ⟨rfl, semOf_scoped j⟩) _).trans ?_
  congr 1
  exact bigSep_univ_eq_bigSepL [0, 1, 2, 3, 4, 5, 6, 7, 8, 9, 10, 11, 12, 13, 14, 15, 16, 17, 18] (by decide) (by decide) _

/-- The scratches, in the order of `bufs`. -/
def bufRef : Fin 4 → Ref sig .scVector := ![cc0_scratch0, cc0_scratch3, cc0_scratch1, cc0_scratch2]

theorem bufRef_injective : Function.Injective bufRef := by decide
theorem bufRef_own (j : Fin 4) : (Tile i).devRef (bufRef j) ∈ ownRefs (sig := sig) (Tile i) := by
  match j with
  | 0 => exact SparseCore.Cfg.mem_ownRefs_of_owner rfl
  | 1 => exact SparseCore.Cfg.mem_ownRefs_of_owner rfl
  | 2 => exact SparseCore.Cfg.mem_ownRefs_of_owner rfl
  | 3 => exact SparseCore.Cfg.mem_ownRefs_of_owner rfl

variable [FloatOps F]

omit [FloatOps F] in
theorem true_sep (P : sProp 𝕄) : iprop(⌜True⌝ ∗ P) = P := by
  have h₁ : iprop(⌜True⌝ ∗ P) ⊢ P := by iintro ⟨-, H⟩; iexact H
  have h₂ : P ⊢ iprop(⌜True⌝ ∗ P) := by
    iintro H
    isplitr; · ipureintro; trivial
    iexact H
  exact equiv_iff.mp ⟨h₁, h₂⟩

theorem ownBufs_split :
    (ownBufs (thr d i) : sProp 𝕄)
      = iprop(bufs (F := F) d i ∗ bigSep (ownRefs (Tile i) \ Finset.univ.image fun j => (Tile i).devRef (bufRef j))
          fun b => iprop(∃ f, ((d, b) : Loc nD τ sig) ↦{fullShare} f)) := by
  unfold SparseCore.Cfg.ownBufs
  refine (bigSep_named (g := fun j : Fin 4 => (Tile i).devRef (bufRef j))
    (fun a b h => bufRef_injective (Proc.devRef_injective _ h)) (bufRef_own i) _).trans ?_
  congr 1
  refine (bigSep_univ_eq_bigSepL [0, 1, 2, 3] (by decide) (by decide) _).trans ?_
  simp only [bufs, Held, Memref.view_whole, View.set_whole, true_sep]
  rfl

/-! ## The rows of a tile -/

/-- The rows of tile `s` of SparseCore `c`, both halves. -/
def tileSet (c s : ℕ) : Finset S2x128x50048.Idx := Finset.univ.filter fun z => (z 1).val / 4 = 2 * s + c

theorem mem_tileSet {c s : ℕ} {z : S2x128x50048.Idx} : z ∈ tileSet c s ↔ (z 1).val / 4 = 2 * s + c := by
  unfold tileSet; rw [Finset.mem_filter]; exact ⟨fun h => h.2, fun h => ⟨Finset.mem_univ _, h⟩⟩

/-- The half rows of a tile, in the order of `rows`. -/
def rowSet (p : Fin 8) : Finset S2x128x50048.Idx := half (p.val / 4) (rowOf i ⟨p.val % 4, Nat.mod_lt _ (by decide)⟩).val

theorem mem_rowSet {p : Fin 8} {z : S2x128x50048.Idx} :
    z ∈ rowSet i p ↔ (z 0).val = p.val / 4 ∧ (z 1).val = 8 * (i 1).val + 4 * (i 0).val + p.val % 4 := mem_half

theorem mem_tileSet_iff {z : S2x128x50048.Idx} : z ∈ tileSet (i 0).val (i 1).val ↔ ∃ p ∈ (Finset.univ : Finset (Fin 8)), z ∈ rowSet i p := by
  rw [mem_tileSet]
  have h0 : (z 0).val < 2 := (z 0).isLt
  constructor
  · intro h
    refine ⟨⟨4 * (z 0).val + (z 1).val % 4, by omega⟩, Finset.mem_univ _, (mem_rowSet i).mpr ⟨?_, ?_⟩⟩
    · show (z 0).val = (4 * (z 0).val + (z 1).val % 4) / 4
      omega
    · show (z 1).val = _ + (4 * (z 0).val + (z 1).val % 4) % 4
      omega
  · rintro ⟨p, -, hp⟩
    have := ((mem_rowSet i).mp hp).2
    omega

theorem rowSet_disjoint : ∀ p ∈ (Finset.univ : Finset (Fin 8)), ∀ p' ∈ (Finset.univ : Finset (Fin 8)), p ≠ p' → Disjoint (rowSet i p) (rowSet i p') := by
  intro p _ p' _ hne
  rw [Finset.disjoint_left]
  intro z hz hz'
  have h := (mem_rowSet i).mp hz
  have h' := (mem_rowSet i).mp hz'
  exact hne (Fin.ext (by omega))

/-- A tile's rows as one piece of the result. -/
theorem rows_eq (f : S2x128x50048.Idx → Elt F .f32) : dltPts d i (tileSet (i 0).val (i 1).val) f = rows d i f := by
  refine (congrArg (fun I => dltPts d i I f) (Finset.ext fun z => (mem_tileSet_iff i).trans Finset.mem_biUnion.symm)).trans
    ((pointsTo_biUnion (ℓ := (thr d i).loc main_v0_scv) Finset.univ (rowSet i) (rowSet_disjoint i)).trans ?_)
  refine (bigSep_univ_eq_bigSepL [0, 1, 2, 3, 4, 5, 6, 7] (by decide) (by decide) (fun p => dltPts d i (rowSet i p) f)).trans ?_
  show iprop(dltPts d i (rowSet i 0) f ∗ dltPts d i (rowSet i 1) f ∗ dltPts d i (rowSet i 2) f ∗ dltPts d i (rowSet i 3) f
    ∗ dltPts d i (rowSet i 4) f ∗ dltPts d i (rowSet i 5) f ∗ dltPts d i (rowSet i 6) f ∗ dltPts d i (rowSet i 7) f) = _
  unfold rowSet
  rfl

/-! ## The task -/

variable (O : CellTallies nD τ sig (HIx 1)) (W : Waits sig (HIx 1))
variable (ix : S16384.Idx → Elt F .i32) (src : S128x16384.Idx → Elt F .f32) (q q' : PosShare TreeShare) (f₀ : S2x128x50048.Idx → Elt F .f32)

theorem task (hO : ∀ g, O g none = 0) :
    iprop(levAts (K (F := F)).L (K (F := F)).lev ∗ emp
        ∗ (idxTab d i ix q' ∗ srcTab d i q src ∗ dltPts d i (tileSet (i 0).val (i 1).val) f₀)
        ∗ scopedBufs (thr d i) ∗ scopedSems0 (thr d i) ∗ owes (thr d i) O W)
      ⊢ wp frame (wpE (defs₀ (F := F)) 𝒱₀ (thr d i) none) Set.univ
          (cc0__delta_body (F := F) i idxV (Memref.isWhole_whole _) srcV (Memref.isWhole_whole _) dltV (Memref.isWhole_whole _)
            idxS (Memref.isWhole_whole _) bufA (Memref.isWhole_whole _) bufB (Memref.isWhole_whole _) srcS (Memref.isWhole_whole _) cc0_scratch4
            cc0_scoped0 cc0_scoped1 cc0_scoped2 cc0_scoped3 cc0_scoped4 cc0_scoped5 cc0_scoped6 cc0_scoped7 cc0_scoped8 cc0_scoped9 cc0_scoped10
            cc0_scoped11 cc0_scoped12 cc0_scoped13 cc0_scoped14 cc0_scoped15 cc0_scoped16)
          fun _ => iprop((idxTab d i ix q' ∗ srcTab d i q src ∗ dltPts d i (tileSet (i 0).val (i 1).val) (delta ix src))
            ∗ scopedBufs (thr d i) ∗ scopedSems0 (thr d i) ∗ ∃ W', ⌜∀ p ∈ W', p ∈ W ∨ p.2 = none⌝ ∗ owes (thr d i) O W') := by
  rw [body_eq, rows_eq, rows_eq,
    show (scopedBufs (thr d i) : sProp 𝕄) = ownBufs (thr d i) from (K (F := F)).scopedBufs_V facts d _ _,
    show (scopedSems0 (thr d i) : sProp 𝕄) = ownSems0 (thr d i) from SparseCore.Cfg.scopedSems0_V (Val := Elt F) d _ _,
    ownSems0_split, ownBufs_split]
  iintro ⟨#Hlv, -, Hgo, ⟨Hb, Hbr⟩, ⟨Hs, Hsr⟩, HO⟩
  ihave #Hmw := ((K (F := F)).mayWaits_none (thr := thr d i) hO) $$ Hlv
  iapply (wp_wand_r frame _ _)
  isplitl [Hgo Hb Hs HO]
  · iapply (wp_body d i O ix src q W q' f₀)
    isplitr; · iexact Hmw
    isplitl [HO]
    · unfold Owns
      iexists W; isplitr
      · ipureintro; exact fun p hp => .inl hp
      · iexact HO
    iframe Hgo Hb Hs
  iintro %_ ⟨Hgo, Hb, Hs, HO⟩
  unfold Owns
  iframe Hgo Hb Hs Hbr Hsr HO

end Cert.Proof.Delta

end
-- ==== Proof.Pay.lean ====
/-
  What the call hands each SparseCore and each of its tiles: the indices and the updates to read at a share, and the
  part of the result that is its own to fill.
-/
module

public import proofs.«01_k».proof.Proof.Task

@[expose] public section

noncomputable section

namespace Cert.Proof.Delta

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type}

local notation "𝕄" => MT nD τ sig (HIx 1) (Elt F) ℕ UU ℕ

/-- The handshakes' ghosts, the left factor. -/
abbrev EH : Emb UH (MT nD τ sig (HIx 1) (Elt F) ℕ UU ℕ) := embL

abbrev xLoc (d : Dev nD) : Loc nD τ sig := (SparseCore.T d).loc main_arg0
abbrev iLoc (d : Dev nD) : Loc nD τ sig := (SparseCore.T d).loc main_arg1
abbrev sLoc (d : Dev nD) : Loc nD τ sig := (SparseCore.T d).loc main_arg2
abbrev dLoc (d : Dev nD) : Loc nD τ sig := (SparseCore.T d).loc main_v0
abbrev oLoc (d : Dev nD) : Loc nD τ sig := (SparseCore.T d).loc main_v1

/-- SparseCore `c`'s share of a table, and tile `s`'s of that. -/
def qC (c : Fin 2) : PosShare TreeShare := dealOf fullShare Finset.univ c
def qT (c : Fin 2) (s : Fin 16) : PosShare TreeShare := dealOf (qC c) Finset.univ s

/-- The rows SparseCore `c` fills. -/
def coreSet (c : ℕ) : Finset S2x128x50048.Idx := Finset.univ.filter fun z => (z 1).val / 4 % 2 = c

theorem mem_coreSet {c : ℕ} {z : S2x128x50048.Idx} : z ∈ coreSet c ↔ (z 1).val / 4 % 2 = c := by
  unfold coreSet; rw [Finset.mem_filter]; exact ⟨fun h => h.2, fun h => ⟨Finset.mem_univ _, h⟩⟩

theorem mem_coreSet_iff (c : Fin 2) {z : S2x128x50048.Idx} :
    z ∈ coreSet c.val ↔ ∃ s ∈ (Finset.univ : Finset (Fin 16)), z ∈ tileSet c.val s.val := by
  have h1 : (z 1).val < 128 := (z 1).isLt
  rw [mem_coreSet]
  constructor
  · intro h
    exact ⟨⟨(z 1).val / 4 / 2, by omega⟩, Finset.mem_univ _, mem_tileSet.mpr (by show _ = 2 * ((z 1).val / 4 / 2) + c.val; omega)⟩
  · rintro ⟨s, -, hs⟩
    have := mem_tileSet.mp hs
    omega

theorem tileSet_disjoint (c : Fin 2) : ∀ s ∈ (Finset.univ : Finset (Fin 16)), ∀ s' ∈ (Finset.univ : Finset (Fin 16)), s ≠ s' →
    Disjoint (tileSet c.val s.val) (tileSet c.val s'.val) := by
  intro s _ s' _ hne
  rw [Finset.disjoint_left]
  intro z hz hz'
  have h := mem_tileSet.mp hz
  have h' := mem_tileSet.mp hz'
  exact hne (Fin.ext (by omega))

theorem coreSet_disjoint : ∀ c ∈ (Finset.univ : Finset (Fin 2)), ∀ c' ∈ (Finset.univ : Finset (Fin 2)), c ≠ c' →
    Disjoint (coreSet c.val) (coreSet c'.val) := by
  intro c _ c' _ hne
  rw [Finset.disjoint_left]
  intro z hz hz'
  exact hne (Fin.ext ((mem_coreSet.mp hz).symm.trans (mem_coreSet.mp hz')))

variable (m : (ℓ : Loc nD τ sig) → Buf (Elt F) ℓ) (d : Dev nD)

/-- What SparseCore `c` holds during the call, its part of the result at `f`. -/
def coreRes (c : Fin 2) (f : S2x128x50048.Idx → Elt F .f32) : sProp 𝕄 :=
  iprop((iLoc d ↦{qC c} m (iLoc d)) ∗ (sLoc d ↦{qC c} m (sLoc d)) ∗ dLoc d ↦[coreSet c.val]{fullShare} f)

/-- What tile `s` of it holds. -/
def tileRes (c : Fin 2) (s : Fin 16) (f : S2x128x50048.Idx → Elt F .f32) : sProp 𝕄 :=
  iprop((iLoc d ↦{qT c s} m (iLoc d)) ∗ (sLoc d ↦{qT c s} m (sLoc d)) ∗ dLoc d ↦[tileSet c.val s.val]{fullShare} f)

theorem coreRes_eq (c : Fin 2) (f : S2x128x50048.Idx → Elt F .f32) :
    coreRes m d c f = bigSep Finset.univ fun s : Fin 16 => tileRes m d c s f := by
  unfold coreRes tileRes
  rw [bigSep_sep', bigSep_sep']
  congr 1
  · exact pointsTo_deal Finset.univ Finset.univ_nonempty _
  congr 1
  · exact pointsTo_deal Finset.univ Finset.univ_nonempty _
  exact (congrArg (fun I => (dLoc d ↦[I]{fullShare} f : sProp 𝕄)) (Finset.ext fun z => (mem_coreSet_iff c).trans Finset.mem_biUnion.symm)).trans
    (pointsTo_biUnion (ℓ := dLoc d) Finset.univ (fun s : Fin 16 => tileSet c.val s.val) (tileSet_disjoint c))

theorem all_eq (f : S2x128x50048.Idx → Elt F .f32) :
    iprop((iLoc d ↦{fullShare} m (iLoc d)) ∗ (sLoc d ↦{fullShare} m (sLoc d)) ∗ dLoc d ↦{fullShare} f)
      = (bigSep Finset.univ fun c : Fin 2 => coreRes m d c f : sProp 𝕄) := by
  unfold coreRes
  rw [bigSep_sep', bigSep_sep']
  congr 1
  · exact pointsTo_deal Finset.univ Finset.univ_nonempty _
  congr 1
  · exact pointsTo_deal Finset.univ Finset.univ_nonempty _
  refine (congrArg (fun I => (dLoc d ↦[I]{fullShare} f : sProp 𝕄)) (Finset.ext fun z => Iff.trans ⟨fun _ => ?_, fun _ => Finset.mem_univ z⟩ Finset.mem_biUnion.symm)).trans
    (pointsTo_biUnion (ℓ := dLoc d) Finset.univ (fun c : Fin 2 => coreSet c.val) coreSet_disjoint)
  exact ⟨⟨(show S2x128x50048.Idx from z) 1 / 4 % 2, Nat.mod_lt _ (by decide)⟩, Finset.mem_univ _, mem_coreSet.mpr rfl⟩

variable [FloatOps F]

/-- The result the tiles leave: each row's updates summed by column. -/
abbrev deltaOf : S2x128x50048.Idx → Elt F .f32 := delta (m (iLoc d)) (m (sLoc d))

/-- The call's payloads: the tables at shares both ways, the result in parts, at its launch contents and filled. -/
def P : (K (F := F)).Pay (nD := nD) (Val := Elt F) (Name := ℕ) (U := UU) where
  st := fun q d c => match q with | 0 => coreRes m d c (m (dLoc d))
  dn := fun q d c => match q with | 0 => coreRes m d c (deltaOf m d)
  go := fun q d c s => match q with | 0 => tileRes m d c s (m (dLoc d))
  td := fun q d c s => match q with | 0 => tileRes m d c s (deltaOf m d)
  x := fun _ _ => iprop(emp)

instance P_storable : (P (F := F) m).IsStorable where
  st := fun q _ _ => match q with | 0 => by unfold P coreRes; infer_instance
  dn := fun q _ _ => match q with | 0 => by unfold P coreRes; infer_instance
  go := fun q _ _ _ => match q with | 0 => by unfold P tileRes; infer_instance
  td := fun q _ _ _ => match q with | 0 => by unfold P tileRes; infer_instance

/-- A SparseCore's operands are its tiles', and its results theirs. -/
theorem vecSplit : (K (F := F)).VecSplit' (P m) 0 := by
  intro d c
  change Fin 2 at c
  show coreRes m d c (m (dLoc d)) ⊢ |={Set.univ}=>
    iprop((bigSep Finset.univ fun s : Fin 16 => tileRes m d c s (m (dLoc d)))
      ∗ ((bigSep Finset.univ fun s : Fin 16 => tileRes m d c s (deltaOf m d)) -∗ coreRes m d c (deltaOf m d)))
  rw [coreRes_eq, coreRes_eq]
  iintro H
  imodintro
  isplitl [H]; · iexact H
  iintro H; iexact H

/-! ## The tile's obligation -/

abbrev D : Defs nD τ sig (Elt F) (ΛP (F := F)) := Pipeline.defs pcfgs defs₀
abbrev 𝒱 : Variants := (𝒱₀).lift
abbrev v₀ : (𝒱).V := Sum.inl none

/-- The coordinates of tile `s` of SparseCore `c`. -/
def coordsV (c : Fin 2) (s : Fin 16) : grid0.Coords
  | 0 => c
  | 1 => s
  | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s =>
      cc0__delta_body (F := F) (coordsV c s) idxV (Memref.isWhole_whole _) srcV (Memref.isWhole_whole _) dltV (Memref.isWhole_whole _)
            idxS (Memref.isWhole_whole _) bufA (Memref.isWhole_whole _) bufB (Memref.isWhole_whole _) srcS (Memref.isWhole_whole _) cc0_scratch4
            cc0_scoped0 cc0_scoped1 cc0_scoped2 cc0_scoped3 cc0_scoped4 cc0_scoped5 cc0_scoped6 cc0_scoped7 cc0_scoped8 cc0_scoped9 cc0_scoped10
            cc0_scoped11 cc0_scoped12 cc0_scoped13 cc0_scoped14 cc0_scoped15 cc0_scoped16) ⟨⟩ c s := rfl

omit [FloatOps F] in
/-- A wait of the body's own, by the launch theorem's account. -/
theorem own_waits {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  iframe HA HB HC
  iexists W'; isplitr
  · ipureintro; exact fun p hp => (hW' p hp).imp_right Or.inl
  · iexact HO

set_option maxRecDepth 1024 in
theorem tileObl : (K (F := F)).TileObl (D (F := F)) 𝒱 (P m) v₀ 0 := by
  intro d c s O W hO _ _
  simp only [show (P m).ox = fun _ _ => 0 from rfl, add_zero]
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 s).val < grid0.bound 1 := ⟨c.isLt, s.isLt⟩
  rw [defs₀_vector]
  simp only [SparseCore.onTile, hc, and_self, ↓reduceDIte]
  exact (task d (coordsV c s) O W (m (iLoc d)) (m (sLoc d)) _ _ (m (dLoc d)) hO).trans
    (wp_mono frame _ _ fun _ => own_waits)

end Cert.Proof.Delta

end
-- ==== Proof.Add.lean ====
/-
  The second call: the result of the first added to `x`, block by block. Block (a, b) of the grid takes columns
  (23 a + b) * 2176 onward of `x` and of the result, and half `a`'s columns b * 2176 onward of the partial sums. The
  last block overhangs `x`; what the body computes there is never written back.
-/
module

public import proofs.«01_k».proof.Proof.Pay
public import proofs.«01_k».proof.Proof.Gen.KernelIdeal.Launch
public import proofs.«01_k».proof.Proof.Gen.KernelIdeal.Points
public import proofs.«01_k».proof.Proof.Gen.KernelIdeal.Skeleton
public import Idealize.ShloMosaic.Lib.Tactic

@[expose] public section

noncomputable section

namespace Cert.Proof.Delta

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligationLoose)

variable {F : FTy → Type} [FloatOps F]

local notation "𝕄" => MT nD τ sig (HIx 1) (Elt F) ℕ UU ℕ

variable (m : (ℓ : Loc nD τ sig) → Buf (Elt F) ℓ)

/-- The buffers as the second call finds them: the partial sums filled, the rest as at launch. -/
@[irreducible] def Vin (c : Dev nD) : (b : Ref sig .tc) → Buf (Elt F) ((c : Thread nD τ).loc b) :=
  Function.update (fun b => m ((c : Thread nD τ).loc b)) main_v0 (deltaOf m c)

theorem Vin_v0 (c : Dev nD) : Vin m c main_v0 = deltaOf m c := by unfold Vin; exact Function.update_self _ _ _

theorem Vin_ne (c : Dev nD) (b : Ref sig .tc) (h : b ≠ main_v0) : Vin m c b = m ((c : Thread nD τ).loc b) := by
  unfold Vin; exact Function.update_of_ne h _ _

/-- The part of `x`'s block at point `t` that lies inside `x`. -/
def xPart (c : Dev nD) (t : Fin cfg1.N) : (win1_0.xblock (grid1.coords t)).Idx → Elt F .f32 :=
  (win1_0.blk t).view.read (Elt F) (Vin m c main_arg0)

/-- The block of partial sums at point `t`. -/
def dPart (c : Dev nD) (t : Fin cfg1.N) : S1x128x2176.Idx → Elt F .f32 :=
  (win1_1.blk t).view.read (Elt F) (Vin m c main_v0)

/-- `x`'s staged block, zero where nothing of `x` lies. -/
def xBlock (c : Dev nD) (t : Fin cfg1.N) : S128x2176.Idx → Elt F .f32 :=
  win1_0.fill (grid1.coords t) (fun _ => zeroE) (xPart m c t)

/-- What the first call's wait may have left recorded. -/
def below (c : Dev nD) : Set (SemLoc sig × HIx 1) :=
  {p | (K (F := F)).lev ((c : Thread nD τ), p.1) p.2 ≤ 8}

/-- The call's proof data. -/
def dat (c : Dev nD) : Dat τ (Elt F) (HIx 1) ℕ UU ℕ cfg1 c where
  A w := Vin m c (Pipeline.arrRef spec1 w)
  after w t := match w with
    | ⟨0, _⟩ => xBlock m c t
    | ⟨1, _⟩ => dPart m c t
    | ⟨2, _⟩ => k1_pay1 (xBlock m c t) (dPart m c t)
  Φ _ := iprop(emp)
  q _ := fullShare
  owed _ := 0
  recorded _ := below (F := F) c

theorem before_x (c : Dev nD) (t : Fin cfg1.N) (d) :
    (dat m c).before (0 : Fin 3) t d = win1_0.fill (grid1.coords t) d (xPart m c t) := by
  unfold Dat.before; rw [if_pos (fetch1_0 t)]; rfl

theorem before_d (c : Dev nD) (t : Fin cfg1.N) (d) : (dat m c).before (1 : Fin 3) t d = dPart m c t := by
  unfold Dat.before; rw [if_pos (fetch1_1 t)]; rfl

theorem before_o (c : Dev nD) (t : Fin cfg1.N) (d) : (dat m c).before (2 : Fin 3) t d = d := by
  unfold Dat.before
  rw [if_neg (show ¬ (cfg1.win 2).fetch t = true by simp [Window.fetch])]
  by_cases h : t.val = 0
  · rw [if_pos h]
  · rw [if_neg h]; exact if_pos (flush1_2 _)

set_option maxHeartbeats 2000000 in
/-- The body on staging buffers `s0`, `s1`, `s2`: the last ends holding the sum of the other two. -/
theorem add_body (c : Dev nD) (E : Set ℕ) (i : grid1.Coords) (s0 s1 s2 : Fin 2)
    (X0 X2 : S128x2176.Idx → Elt F .f32) (X1 : S1x128x2176.Idx → Elt F .f32) (Q : PUnit → sProp 𝕄) :
    iprop((owns (c : Thread nD τ) (stage1_0 s0) fullShare X0 ∗ owns (c : Thread nD τ) (stage1_1 s1) fullShare X1
            ∗ owns (c : Thread nD τ) (stage1_2 s2) fullShare X2)
          ∗ (iprop(owns (c : Thread nD τ) (stage1_0 s0) fullShare X0 ∗ owns (c : Thread nD τ) (stage1_1 s1) fullShare X1
                  ∗ owns (c : Thread nD τ) (stage1_2 s2) fullShare (k1_pay1 X0 X1)) -∗ Q ⟨⟩))
      ⊢ wp frame (wpE (defs₀ (F := F)) 𝒱₀ c none) E
          (cc1__add_body i (stage1_0 s0) (hstage1_0 s0) (stage1_1 s1) (hstage1_1 s1) (stage1_2 s2) (hstage1_2 s2)) Q := by
  have hz : (![0, 0] : Fin 2 → Nat) = fun _ => 0 := funext fun a => by fin_cases a <;> rfl
  have hz3 : (![0, 0, 0] : Fin 3 → Nat) = fun _ => 0 := funext fun a => by fin_cases a <;> rfl
  have hr00 : (Memref.whole cc1_stg0_0 : Memref sig .tc _ _ _).view.readAt (Elt F) (Rect.unit (s := S128x2176) ![0, 0] S128x2176.size
      inb_S128x2176_S128x2176_0_0).toLoadRect = id := funext (Memref.readAt_unit_zero (Elt F) cc1_stg0_0 hz _)
  have hr01 : (Memref.whole cc1_stg0_1 : Memref sig .tc _ _ _).view.readAt (Elt F) (Rect.unit (s := S128x2176) ![0, 0] S128x2176.size
      inb_S128x2176_S128x2176_0_0).toLoadRect = id := funext (Memref.readAt_unit_zero (Elt F) cc1_stg0_1 hz _)
  have hr10 : (Memref.whole cc1_stg1_0 : Memref sig .tc _ _ _).view.readAt (Elt F) (Rect.unit (s := S1x128x2176) ![0, 0, 0] S1x128x2176.size
      inb_S1x128x2176_S1x128x2176_0_0_0).toLoadRect = id := funext (Memref.readAt_unit_zero (Elt F) cc1_stg1_0 hz3 _)
  have hr11 : (Memref.whole cc1_stg1_1 : Memref sig .tc _ _ _).view.readAt (Elt F) (Rect.unit (s := S1x128x2176) ![0, 0, 0] S1x128x2176.size
      inb_S1x128x2176_S1x128x2176_0_0_0).toLoadRect = id := funext (Memref.readAt_unit_zero (Elt F) cc1_stg1_1 hz3 _)
  have hw20 : ∀ f w, (((Memref.whole cc1_stg2_0).access (Rect.unit (s := S128x2176) ![0, 0] S128x2176.size inb_S128x2176_S128x2176_0_0)) :
      View sig .tc _ _ _).write (Elt F) f w Finset.univ = w := Memref.write_access_unit_zero_univ (Elt F) cc1_stg2_0 hz _
  have hw21 : ∀ f w, (((Memref.whole cc1_stg2_1).access (Rect.unit (s := S128x2176) ![0, 0] S128x2176.size inb_S128x2176_S128x2176_0_0)) :
      View sig .tc _ _ _).write (Elt F) f w Finset.univ = w := Memref.write_access_unit_zero_univ (Elt F) cc1_stg2_1 hz _
  fin_cases s0 <;> fin_cases s1 <;> fin_cases s2
  all_goals
    simp only [owns_whole_eq, cc1__add_body_eq_skeleton]; unfold cc1__add_body_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    first | rw [hr00] | rw [hr01]
    first | rw [hr10] | rw [hr11]
    first | rw [hw20] | rw [hw21]
    isplitl [H0]
    · iexists f0; isplitr; · ipureintro; exact hf0
      iexact H0
    isplitl [H1]
    · iexists f1; isplitr; · ipureintro; exact hf1
      iexact H1
    · iexists k1_pay1 f0 f1; isplitr; · ipureintro; rw [hf0, hf1]
      iexact H2

/-- Inside `x` the sum does not depend on what the overhang holds. -/
theorem sum_cut (c : Dev nD) (t : Fin cfg1.N) (d0 : S128x2176.Idx → Elt F .f32) :
    win1_2.cut (grid1.coords t) (k1_pay1 (win1_0.fill (grid1.coords t) d0 (xPart m c t)) (dPart m c t))
      = win1_2.cut (grid1.coords t) (k1_pay1 (xBlock m c t) (dPart m c t)) := by
  funext j
  show FloatOps.addf (win1_0.cut (grid1.coords t) (win1_0.fill (grid1.coords t) d0 (xPart m c t)) j) _
    = FloatOps.addf (win1_0.cut (grid1.coords t) (xBlock m c t) j) _
  unfold xBlock
  rw [Window.cut_fill, Window.cut_fill]

theorem sum_fill (c : Dev nD) (t : Fin cfg1.N) (d0 : S128x2176.Idx → Elt F .f32) :
    (cfg1.win 2).fill (cfg1.grid.coords t) (k1_pay1 (win1_0.fill (grid1.coords t) d0 (xPart m c t)) (dPart m c t))
        ((cfg1.win 2).cut (cfg1.grid.coords t) ((dat m c).after 2 t))
      = k1_pay1 (win1_0.fill (grid1.coords t) d0 (xPart m c t)) (dPart m c t) :=
  win1_2.fill_congr_cut (grid1.coords t) (sum_cut m c t d0)

theorem add_obligation (c : Dev nD) : BodyObligationLoose (dat m c) (defs₀ (F := F)) 𝒱₀ none Set.univ := fun t => by
  rw [bigSep_W1, bigSep_W1]
  simp only
  rw [show (dat m c).Φ t.succ = (dat m c).Φ t.castSucc from rfl,
    show (dat m c).owesAt none t.succ = (dat m c).owesAt none t.castSucc from rfl]
  iintro ⟨HΦ, Ho, ⟨%d0, H0⟩, ⟨%d1, H1⟩, ⟨%d2, H2⟩⟩
  rw [before_x m c t d0, before_d m c t d1, before_o m c t d2]
  iapply (add_body (F := F) c Set.univ (grid1.coords t) (cfg1.slots t 0) (cfg1.slots t 1) (cfg1.slots t 2)
    (win1_0.fill (grid1.coords t) d0 (xPart m c t)) d2 (dPart m c t) _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  isplitl [H0]
  · iexists d0
    change _ ⊢ owns (c : Thread nD τ) (stage1_0 (cfg1.slots t 0)) fullShare (win1_0.fill (grid1.coords t) d0 (win1_0.cut (grid1.coords t) (xBlock m c t)))
    rw [show win1_0.cut (grid1.coords t) (xBlock m c t) = xPart m c t from win1_0.cut_fill _ _ _]
    try iexact H0
  isplitl [H1]
  · iexact H1
  · iexists (k1_pay1 (win1_0.fill (grid1.coords t) d0 (xPart m c t)) (dPart m c t))
    rw [sum_fill m c t d0]
    iexact H2

end Cert.Proof.Delta

end
-- ==== Proof.Sum.lean ====
/-
  The result array after the second call: every element is `x`'s plus its column's partial sum.
-/
module

public import proofs.«01_k».proof.Proof.Add
public import Idealize.ShloMosaic.Lib.ValueLayout
public import Idealize.ShloMosaic.Lib.Pipeline.ValueKit

@[expose] public section

noncomputable section

namespace Cert.Proof.Delta

open Cert.KernelIdeal Cert.KernelIdeal.Gen

open Idealize.ShloMosaic
open Idealize.ShloMosaic.TcCoe
open Idealize.ShloMosaic.SparseCore.Cfg (HIx)
open Idealize.SL Idealize.SL.Sem
open Idealize.ShloMosaic.Pipeline (Dat Window)

variable {F : FTy → Type} [FloatOps F]

variable (m : (ℓ : Loc nD τ sig) → Buf (Elt F) ℓ)

/-- Column `j` of row `r` among the partial sums: which half, the row, the column within the half. -/
def inHalves (z : S128x100000.Idx) : S2x128x50048.Idx :=
  ValueIdx.ix3 ⟨(z 1).val / 50048, by have h : (z 1).val < 100000 := (z 1).isLt; omega⟩ (z 0) ⟨(z 1).val % 50048, Nat.mod_lt _ (by decide)⟩

/-- The result. -/
def total (c : Dev nD) (z : S128x100000.Idx) : Elt F .f32 :=
  FloatOps.addf (m (xLoc c) z) (deltaOf m c (inHalves z))

theorem index_x : ∀ (t : Fin grid1.N), win1_0.index t 0 = 0 ∧ win1_0.index t 1 = t.val := by decide +kernel
theorem index_o : ∀ (t : Fin grid1.N), win1_2.index t 0 = 0 ∧ win1_2.index t 1 = t.val := by decide +kernel
theorem index_d : ∀ (t : Fin grid1.N), win1_1.index t 0 = t.val / 23 ∧ win1_1.index t 1 = 0 ∧ win1_1.index t 2 = t.val % 23 := by
  decide +kernel

theorem emb_x (t : Fin cfg1.N) (j : (win1_0.xblock (grid1.coords t)).Idx) :
    (((win1_0.blk t).view.emb j) 0).val = (j 0).val ∧ (((win1_0.blk t).view.emb j) 1).val = t.val * 2176 + (j 1).val := by
  constructor
  · have := Window.rect_emb_val win1_0 t j 0
    rw [(index_x t).1] at this
    exact this.trans (by omega)
  · have := Window.rect_emb_val win1_0 t j 1
    rw [(index_x t).2] at this
    exact this

theorem emb_o (t : Fin cfg1.N) (j : (win1_2.xblock (grid1.coords t)).Idx) :
    (((win1_2.blk t).view.emb j) 0).val = (j 0).val ∧ (((win1_2.blk t).view.emb j) 1).val = t.val * 2176 + (j 1).val := by
  constructor
  · have := Window.rect_emb_val win1_2 t j 0
    rw [(index_o t).1] at this
    exact this.trans (by omega)
  · have := Window.rect_emb_val win1_2 t j 1
    rw [(index_o t).2] at this
    exact this

theorem emb_d (t : Fin cfg1.N) (r : Fin 128) (j : Fin 2176) :
    (win1_1.blk t).view.emb (ValueIdx.ix3 (0 : Fin 1) r j) = (ValueIdx.ix3 ⟨t.val / 23, by have h : t.val < 46 := t.isLt; omega⟩ r
      ⟨t.val % 23 * 2176 + j.val, by have := j.isLt; have := Nat.mod_lt t.val (show 23 > 0 by decide); omega⟩ : S2x128x50048.Idx) := by
  have h0 := Window.rect_emb_val win1_1 t (ValueIdx.ix3 (0 : Fin 1) r j) 0
  have h1 := Window.rect_emb_val win1_1 t (ValueIdx.ix3 (0 : Fin 1) r j) 1
  have h2 := Window.rect_emb_val win1_1 t (ValueIdx.ix3 (0 : Fin 1) r j) 2
  rw [(index_d t).1] at h0; rw [(index_d t).2.1] at h1; rw [(index_d t).2.2] at h2
  funext a
  match a with
  | ⟨0, _⟩ => exact Fin.ext (h0.trans (show t.val / 23 * 1 + 0 = t.val / 23 by omega))
  | ⟨1, _⟩ => exact Fin.ext (h1.trans (show 0 * 128 + r.val = r.val by omega))
  | ⟨2, _⟩ => exact Fin.ext h2

theorem flushed_o (c : Dev nD) (t : Fin cfg1.N) :
    (dat m c).flushed 2 t = ((cfg1.win 2).blk t).view.read (Elt F) (total m c) := by
  funext j
  change (win1_2.xblock (grid1.coords t)).Idx at j
  have ho := emb_o t j
  have hx : ((win1_0.blk t).view.emb j : S128x100000.Idx) = (win1_2.blk t).view.emb j := rfl
  have h0 : (j 0).val < 128 := (win1_2.xinj (grid1.coords t) j 0).isLt
  have h1 : (j 1).val < 2176 := (win1_2.xinj (grid1.coords t) j 1).isLt
  have hd : (inHalves ((win1_2.blk t).view.emb j)) = (win1_1.blk t).view.emb (ValueIdx.ix3 (0 : Fin 1) ⟨(j 0).val, h0⟩ ⟨(j 1).val, h1⟩) := by
    rw [emb_d]
    have ht : t.val < 46 := t.isLt
    unfold inHalves
    congr 1
    · exact Fin.ext (by show (((win1_2.blk t).view.emb j) 1).val / 50048 = t.val / 23; rw [ho.2]; omega)
    · exact Fin.ext ho.1
    · exact Fin.ext (by show (((win1_2.blk t).view.emb j) 1).val % 50048 = t.val % 23 * 2176 + (j 1).val; rw [ho.2]; omega)
  show FloatOps.addf (win1_0.cut (grid1.coords t) (xBlock m c t) j) (shapeCast S128x2176 (dPart m c t) shapeCasts_S1x128x2176_S128x2176 (win1_2.xinj (grid1.coords t) j))
    = FloatOps.addf (m (xLoc c) ((win1_2.blk t).view.emb j)) (deltaOf m c (inHalves ((win1_2.blk t).view.emb j)))
  congr 1
  · unfold xBlock
    rw [Window.cut_fill]
    unfold xPart
    rw [Vin_ne m c main_arg0 (by decide)]
    rfl
  · rw [hd, show win1_2.xinj (grid1.coords t) j = ValueIdx.ix2 ⟨(j 0).val, h0⟩ ⟨(j 1).val, h1⟩ from ValueIdx.eq_ix2 _]
    refine (ValueIdx.shapeCast_1ab_ab_apply _ _ _ _).trans ?_
    unfold dPart
    rw [Vin_v0]
    rfl

theorem cover_o (z : S128x100000.Idx) : ∃ t : Fin cfg1.N, (cfg1.win 2).flush t = true ∧ z ∈ ((cfg1.win 2).blk t).view.set :=
  Window.Covers.cover (w := win1_2) (by decide +kernel) (arr_whole1 2) z

theorem out_final (c : Dev nD) : (dat m c).arrAt 2 cfg1.N = total m c :=
  (dat m c).arrAt_eq_of_cover 2 (total m c) (fun t _ => flushed_o m c t) cover_o

end Cert.Proof.Delta

end
-- ==== Proof.Region.lean ====
/-
  The second call as a step of @main: entered with every array of the program at what the first call left, left with
  the result array filled besides.
-/
module

public import proofs.«01_k».proof.Proof.Sum
public import Idealize.ShloMosaic.Lib.Pipeline.RegionsLoop

@[expose] public section

noncomputable section

namespace Cert.Proof.Delta

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window)

variable {F : FTy → Type} [FloatOps F]

local notation "𝕄" => MT nD τ sig (HIx 1) (Elt F) ℕ UU ℕ

/-- The pipeline's ghosts, the left factor of the right one. -/
def EP : Emb UK (MT nD τ sig (HIx 1) (Elt F) ℕ UU ℕ) := (Emb.inl : Emb UK (UK × Counters)).trans embR

instance EP_landsIn : (EP (F := F)).LandsIn (upEmb : UEmb _ (MT nD τ sig (HIx 1) (Elt F) ℕ UU ℕ)) := by
  unfold EP; infer_instance

abbrev adm : (p : Fin 1) → (pcfgs (F := F) p).Adm := fun p => (cfgs p).toPCfg_adm

variable (m : (ℓ : Loc nD τ sig) → Buf (Elt F) ℓ)

/-- The proof data of the program's one pipeline. -/
def pdats : (p : Fin 1) → (c : Dev nD) → Dat τ (Elt F) (HIx 1) ℕ UU ℕ (Pipeline.pin (pcfgs (F := F)) adm p) c
  | ⟨0, _⟩ => fun c => dat m c

/-- The buffers as the second call leaves them: the result filled besides. -/
@[irreducible] def Vout (c : Dev nD) : (b : Ref sig .tc) → Buf (Elt F) ((c : Thread nD τ).loc b) :=
  Function.update (Vin m c) main_v1 (total m c)

theorem Vout_v1 (c : Dev nD) : Vout m c main_v1 = total m c := by unfold Vout; exact Function.update_self _ _ _

theorem Vout_ne (c : Dev nD) (b : Ref sig .tc) (h : b ≠ main_v1) : Vout m c b = Vin m c b := by
  unfold Vout; exact Function.update_of_ne h _ _

/-- The core owes nothing, and has waited on no cell above the first call's. -/
def idle (c : Dev nD) : sProp 𝕄 :=
  iprop(∃ W, ⌜(K (F := F)).WBelow (c : Thread nD τ) W 8⌝ ∗ owes (c : Thread nD τ) (0 : CellTallies nD τ sig (HIx 1)) W)

theorem idle_owesAt (c : Dev nD) (t) : idle (F := F) c ⊢ (dat m c).owesAt none t := by
  unfold idle Dat.owesAt Pipeline.owesWithin
  iintro ⟨%W, %hW, HO⟩
  iexists W
  isplitr
  · ipureintro; exact fun p hp => Or.inl (hW p hp)
  iexact HO

theorem owesAt_idle (c : Dev nD) (t) : (dat m c).owesAt none t ⊢ idle (F := F) c := by
  unfold idle Dat.owesAt Pipeline.owesWithin
  iintro ⟨%W, %hW, HO⟩
  iexists W
  isplitr
  · ipureintro
    intro p hp
    rcases hW hp with h | ⟨w, s, rfl⟩
    · exact h
    · exact Nat.zero_le _
  iexact HO

set_option backward.isDefEq.respectTransparency.types false in
/-- The call. -/
def reg : Pipeline.RegionSeg (pcfgs (F := F)) adm (pdats m) none defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := add_obligation m c
  hwaits := Pipeline.hwaits_of_owed_zero _ _ _ _ (K (F := F)).L (K (F := F)).lev 0 fun _ _ => rfl
  pre c := iprop(unscopedBufs c (Vin m c) ∗ idle c)
  post c := iprop(unscopedBufs c (Vout m c) ∗ idle c)
  X _ := BI.emp
  Y _ := BI.emp
  Z c := Pipeline.unscopedRest (Ix := HIx 1) (Name := ℕ) (U := UU) (Lvl := ℕ) spec1 c (Vin m c)
  hentry c := by
    rw [Pipeline.ownSems0_none]
    have hsplit := Pipeline.arrays_of_unscopedBufs (p := 0) (pcfgs (F := F)) adm (pdats m) (launch1).win (launch1).arr_whole c
      ((pdats m 0 c).share_full fun _ => rfl) (Vin m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (idle_owesAt m c 0); iexact HO
    isplitr; · iempintro
    iexact Hrest
  hin c := by
    rw [show (pdats m 0 c).Φ 0 = BI.emp from rfl]
    iintro ⟨-, -, -⟩; iempintro
  hout c := by
    rw [Pipeline.ownSems0_none, show (pdats m 0 c).Φ (Fin.last _) = BI.emp from rfl]
    iintro -
    isplitr; · iempintro
    isplitr; · iempintro
    iapply (Entails.of_eq (scopedRest1_eq c).symm)
    iempintro
  hexit c := by
    have hjoin := Pipeline.unscopedBufs_of_arrays (p := 0) (pcfgs (F := F)) adm (Ix := HIx 1) (Name := ℕ) (U := UU) (Lvl := ℕ) (launch1).win (launch1).arr_whole c
      (pdats m) ((pdats m 0 c).share_full fun _ => rfl) (Vin m c) (Vout m c) ((pdats m 0 c).arrAt · cfg1.N)
      (fun w => by
        fin_cases w
        · exact ((dat m c).arrAt_in 0 rfl _).trans (Vout_ne m c main_arg0 (by decide)).symm
        · exact ((dat m c).arrAt_in 1 rfl _).trans (Vout_ne m c main_v0 (by decide)).symm
        · exact (out_final m c).trans (Vout_v1 m c).symm)
      (fun b hb => Vout_ne m c b fun h => hb (h ▸ Finset.mem_image.mpr ⟨2, Finset.mem_univ _, rfl⟩))
    iintro ⟨Ha, HO, -, Hrest⟩
    imodintro
    isplitl [Ha Hrest]
    · iapply hjoin; isplitl [Ha]; · iexact Ha
      iexact Hrest
    iapply (owesAt_idle m c (Fin.last _)); iexact HO

end Cert.Proof.Delta

end
-- ==== Proof.Run.lean ====
/-
  The program's run: the launch hands every thread its part, @main makes the two calls, and every weak run ends with the
  result array at `total` and the arguments as they were.
-/
module

public import proofs.«01_k».proof.Proof.Region

@[expose] public section

noncomputable section

namespace Cert.Proof.Delta

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch's ghosts -/

/-- The handshakes' cells, the pipeline's cells, no counter. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- What a device's @main is dealt for the second call. -/
abbrev G (d : Dev nD) : sProp 𝕄 :=
  iprop((bigSep Finset.univ fun p => Pipeline.cellsGhost (Pipeline.pin (pcfgs (F := F)) adm) EP p d)
    ∗ bigSep Finset.univ fun p => Pipeline.toksInit (Pipeline.pin (pcfgs (F := F)) adm) EP p d)

theorem noExtra : (bigSep Finset.univ fun thr : Thread nD τ => bigSep Finset.univ fun q : Fin 1 => (P m).x q thr) = (iprop(emp) : sProp 𝕄) := by
  unfold P; dsimp only
  exact (bigSep_congr fun _ _ => bigSep_emp_const _).trans (bigSep_emp_const _)

theorem own_right (a : UK) (b : Counters) : (BI.own (embR (A := UH) (a, b)) : sProp 𝕄) ⊢ BI.own (EP (F := F) a) := by
  have h := own_pair_emb (embR (nD := nD) (τ := τ) (sig := sig) (Ix := HIx 1) (Val := Elt F) (Name := ℕ) (Lvl := ℕ) (A := UH) (B := UK × Counters)) a b
  exact h.trans sep_elim_left

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  rw [noExtra, bigSep_sep']
  iintro Hu
  ihave H := (ownU_pair _ _) $$ Hu
  icases H with ⟨HH, HR⟩
  ihave HP := (own_right _ _) $$ HR
  imod (Pipeline.fund_ghost (Pipeline.pin (pcfgs (F := F)) adm) EP cellOf_inj) $$ HP with ⟨Hg, Ht⟩
  imodintro
  isplitl [HH]; · iexact HH
  isplitl [Hg Ht]
  · isplitl [Hg]; · iexact Hg
    iexact Ht
  iempintro

/-! ## @main -/

theorem unscopedBufs_eq (d : Dev nD) (W : (b : Ref sig .tc) → Buf (Elt F) ((d.tc : Thread nD τ).loc b)) :
    (unscopedBufs d W : sProp 𝕄) = iprop((xLoc d ↦{fullShare} W main_arg0) ∗ (iLoc d ↦{fullShare} W main_arg1)
      ∗ (sLoc d ↦{fullShare} W main_arg2) ∗ (dLoc d ↦{fullShare} W main_v0) ∗ oLoc d ↦{fullShare} W main_v1) := by
  unfold unscopedBufs
  rw [show (Finset.univ.filter fun b : Ref sig .tc => ¬ b.isScoped) = {main_arg0, main_arg1, main_arg2, main_v0, main_v1} by decide,
    SparseCore.bigSep_insert' (by decide), SparseCore.bigSep_insert' (by decide), SparseCore.bigSep_insert' (by decide),
    SparseCore.bigSep_insert' (by decide), bigSep_singleton]

/-- What the second call finds, from what the first left. -/
theorem entry_eq (d : Dev nD) :
    (unscopedBufs d (Vin m d) : sProp 𝕄) = iprop((xLoc d ↦{fullShare} m (xLoc d)) ∗ (iLoc d ↦{fullShare} m (iLoc d))
      ∗ (sLoc d ↦{fullShare} m (sLoc d)) ∗ (dLoc d ↦{fullShare} deltaOf m d) ∗ oLoc d ↦{fullShare} m (oLoc d)) := by
  rw [unscopedBufs_eq, Vin_v0, Vin_ne m d main_arg0 (by decide), Vin_ne m d main_arg1 (by decide), Vin_ne m d main_arg2 (by decide),
    Vin_ne m d main_v1 (by decide)]

/-- What it leaves. -/
theorem exit_eq (d : Dev nD) :
    (unscopedBufs d (Vout m d) : sProp 𝕄) = iprop((xLoc d ↦{fullShare} m (xLoc d)) ∗ (iLoc d ↦{fullShare} m (iLoc d))
      ∗ (sLoc d ↦{fullShare} m (sLoc d)) ∗ (dLoc d ↦{fullShare} deltaOf m d) ∗ oLoc d ↦{fullShare} total m d) := by
  rw [unscopedBufs_eq, Vout_v1, Vout_ne m d main_arg0 (by decide), Vout_ne m d main_arg1 (by decide), Vout_ne m d main_arg2 (by decide),
    Vout_ne m d main_v0 (by decide), Vin_v0, Vin_ne m d main_arg0 (by decide), Vin_ne m d main_arg1 (by decide), Vin_ne m d main_arg2 (by decide)]

/-- What @main leaves the claims: the arguments at their launch contents, the result filled. -/
abbrev FIN (d : Dev nD) : sProp 𝕄 :=
  iprop((xLoc d ↦{fullShare} m (xLoc d)) ∗ (iLoc d ↦{fullShare} m (iLoc d)) ∗ (sLoc d ↦{fullShare} m (sLoc d)) ∗ oLoc d ↦{fullShare} total m d)

/-- The second call, in the program's own labels. -/
theorem wp_add [∀ e, Nonempty (Elt F e)] (d : Dev nD) {Φ : PUnit → sProp 𝕄} :
    iprop((iprop(boundary (d.tc : Thread nD τ) ∗ unscopedBufs d (Vout m d) ∗ idle d) -∗ Φ ⟨⟩)
        ∗ boundary (d.tc : Thread nD τ) ∗ (unscopedBufs d (Vin m d) ∗ idle d) ∗ levAts (K (F := F)).L (K (F := F)).lev ∗ G d)
      ⊢ wp frame (wpE ((K (F := F)).defs (D (F := F))) 𝒱 (d.tc : Thread nD τ) none) Set.univ
          (Prog.lift (.customCall (SparseCore.inner (Pipeline.entry 0)) ())) Φ := by
  have h := Pipeline.RegionSeg.wp (pcfgs (F := F)) adm (pdats m) none cellOf_inj EP defs₀ 𝒱₀ (K (F := F)).L (K (F := F)).lev (reg m) d
    none (fun _ h => nomatch h) (fun _ => .ret ⟨⟩) Φ
  rw [show (reg m).pre d = iprop(unscopedBufs d (Vin m d) ∗ idle d) from rfl, show (reg m).post d = iprop(unscopedBufs d (Vout m d) ∗ idle d) from rfl] at h
  refine BIBase.Entails.trans ?_ (h.trans ((K (F := F)).wp_liftProg (D (F := F)) 𝒱 (d.tc : Thread nD τ) Set.univ none _ Φ))
  rw [wp_ret]
  unfold G
  rw [show (Finset.univ : Finset (Fin 1)) = {0} by decide, bigSep_singleton, bigSep_singleton]
  iintro ⟨Hk, Hb, Hpre, Hlev, Hg, Ht⟩
  isplitl [Hk]
  · iintro H
    imodintro
    iapply Hk; iexact H
  isplitl [Hb]; · iexact Hb
  isplitl [Hpre]; · iexact Hpre
  isplitl [Hlev]; · iexact Hlev
  isplitl [Hg] <;> iassumption

/-- The TensorCore's state after the first call: owing nothing, and the rest. -/
theorem tcSt_one (d : Dev nD) : ∃ R : sProp 𝕄, (K (F := F)).tcSt EH d 1 = iprop(idle d ∗ R) := by
  unfold SparseCore.Cfg.tcSt
  rw [(K (F := F)).Otc_end d (le_refl 1)]
  exact ⟨_, rfl⟩

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_one (F := F) d
  unfold SparseCore.Cfg.tcRes SparseCore.Cfg.tcEnd
  rw [hR, unscopedBufs_eq]
  simp only [main, wp_bind, wp_pure]
  iintro ⟨#Hctx, Hst, ⟨Hb, ⟨Hx, Hi, Hs, Hd, Ho⟩, Hts, -⟩, HG⟩
  ihave Hall := (Entails.of_eq (all_eq m d (m (dLoc d)))) $$ [Hi Hs Hd]
  · iframe Hi Hs Hd
  iapply ((K (F := F)).wp_run (D (F := F)) 𝒱 (EH := EH) (P := P m) κ d 0) $$ [Hst Hall Hb Hx Ho Hts HG]
  isplitr; · iexact Hctx
  isplitl [Hst]; · iexact Hst
  isplitl [Hall]; · iexact Hall
  iintro ⟨Hst, Hdn⟩
  ihave H := (Entails.of_eq (show (bigSep Finset.univ fun c : Fin ((K (F := F)).nCore 0) => (P m).dn 0 d c) = _ from (all_eq m d (deltaOf m d)).symm)) $$ Hdn
  icases H with ⟨Hi, Hs, Hd⟩
  ihave Hlev := (SparseCore.Cfg.ctx_levAts κ) $$ Hctx
  ihave H := (Entails.of_eq (show (K (F := F)).tcSt EH d ((0 : Fin 1).val + 1) = _ from hR)) $$ Hst
  icases H with ⟨HO, Hrest⟩
  iapply (wp_add m d) $$ [Hb Hx Hi Hs Hd Ho HO Hrest Hts HG Hlev]
  isplitl [Hrest Hts]
  · iintro ⟨Hb, Hbufs, HO⟩
    ihave H := (Entails.of_eq (exit_eq m d)) $$ Hbufs
    icases H with ⟨Hx, Hi, Hs, -, Ho⟩
    imodintro
    isplitl [HO Hrest]
    · isplitl [HO]; · iexact HO
      iexact Hrest
    isplitl [Hx Hi Hs Ho]
    · iframe Hx Hi Hs Ho
    isplitl [Hb] <;> iassumption
  isplitl [Hb]; · iexact Hb
  isplitl [Hx Hi Hs Hd Ho HO]
  · isplitl [Hx Hi Hs Hd Ho]
    · rw [entry_eq]; iframe Hx Hi Hs Hd Ho
    iexact HO
  isplitl [Hlev]; · iexact Hlev
  iexact HG

/-! ## The run -/

def fq (d : Dev nD) (s' : Phys nD τ sig (Elt F)) : Prop :=
  s'.mem.mem (oLoc d) = total m d ∧ s'.mem.mem (xLoc d) = m (xLoc d) ∧ s'.mem.mem (iLoc d) = m (iLoc d) ∧ s'.mem.mem (sLoc d) = m (sLoc d)

theorem hfin (d : Dev nD) (s' : Phys nD τ sig (Elt F)) : iprop(FIN m d ∗ SI s') ⊢ (⌜fq m d s'⌝ : sProp 𝕄) := by
  iintro ⟨⟨Hx, Hi, Hs, Ho⟩, HSI⟩
  icombine HSI Hx gives %hx
  icombine HSI Hi gives %hi
  icombine HSI Hs gives %hs
  icombine HSI Ho gives %ho
  ipureintro
  exact ⟨Buf.eq_of_forall_mem_univ ho, Buf.eq_of_forall_mem_univ hx, Buf.eq_of_forall_mem_univ hi, Buf.eq_of_forall_mem_univ hs⟩

/-- Every device's result is `total`, its arguments are unchanged, and every counter is zero. -/
def QC : PUnit × MemSt nD τ sig (Elt F) → Prop := fun r =>
  (∀ c : Dev nD, r.2.mem (oLoc c) = total m c ∧ r.2.mem (xLoc c) = m (xLoc c) ∧ r.2.mem (iLoc c) = m (iLoc c) ∧ r.2.mem (sLoc c) = m (sLoc c))
    ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h hz => ⟨h, hz⟩)

end Cert.Proof.Delta

end
-- ==== Proof.Value.lean ====
/-
  Over the extended reals, where additions may be reordered: what a tile accumulates is one sum over the updates, and
  the result is the reference's scatter.
-/
module

public import proofs.«01_k».proof.Proof.Sum
public import proofs.«01_k».proof.Proof.Gen.ReferenceIdeal.Run
public import proofs.«01_k».proof.Pre_indices_not_negative
public import Idealize.ShloMosaic.Lib.Routing.OpsPair

@[expose] public section

noncomputable section

namespace Cert.Proof.Delta

open Cert.KernelIdeal Cert.KernelIdeal.Gen
open Idealize.ShloMosaic Idealize.SL.Sem

/-! ## A masked accumulating store, read at one element -/

/-- A fold that adds to some elements at each step, read at one of them. -/
theorem fold_add {α β : Type} (c : β → α → Prop) [∀ k j, Decidable (c k j)] (v : β → EReal) (s : (α → EReal) → β → α → EReal)
    (hs : ∀ g k j, s g k j = g j + if c k j then v k else 0) (j : α) :
    ∀ (L : List β) (g : α → EReal), L.foldl s g j = g j + (L.map fun k => if c k j then v k else 0).sum
  | [], g => (add_zero _).symm
  | k :: L, g => by
    rw [List.foldl_cons, fold_add c v s hs j L, hs, List.map_cons, List.sum_cons, add_assoc]

/-- Lane `k` of a step. -/
abbrev at16 (k : Fin 16) : S16.Idx := Shape.ofLane (d := ![16]) k

/-- Each element takes the sum of the lanes that name it, over the lanes whose bit is set. -/
theorem store_apply (f : Vec Ideal S50048 .f32) (cl : IVec S16 32) (v : Vec Ideal S16 .f32) (mk : IVec S16 1)
    (h : ColOk cl) (j : S50048.Idx) :
    (storeIdx (F := Ideal) (e := .f32) f ![cl] v mk true h j : EReal)
      = (f j : EReal) + ∑ k : Fin 16, if mk (at16 k) = 1 ∧ (j 0).val = (cl (at16 k)).toNat then (v (at16 k) : EReal) else 0 := by
  rw [Fin.sum_univ_def]
  refine fold_add (fun (k : Fin 16) (j : S50048.Idx) => mk (at16 k) = 1 ∧ (j 0).val = (cl (at16 k)).toNat) (fun k => (v (at16 k) : EReal)) _ ?_ j _ f
  intro g k j
  dsimp only
  by_cases hm : mk (at16 k) = 1
  · rw [if_pos hm]
    by_cases hj : (j 0).val = (cl (at16 k)).toNat
    · have ha : ∀ a, (j a).val = (idxAt ![cl] h (at16 k) a).val := fun a => by
        obtain rfl : a = 0 := Subsingleton.elim _ _
        exact hj
      have hmj : mk (at16 k) = 1 ∧ (j 0).val = (cl (at16 k)).toNat := ⟨hm, hj⟩
      refine (if_pos ha).trans ?_
      rw [if_pos hmj]
      have e : idxAt ![cl] h (at16 k) = j := funext fun a => Fin.ext (ha a).symm
      exact congrArg (fun y => (g y : EReal) + v (at16 k)) e
    · have hmj : ¬ (mk (at16 k) = 1 ∧ (j 0).val = (cl (at16 k)).toNat) := fun q => hj q.2
      refine (if_neg fun q => hj (q 0)).trans ?_
      rw [if_neg hmj, add_zero]
  · rw [if_neg hm, if_neg fun q => hm q.1, add_zero]

/-! ## A tile's sums -/

/-- Under the half's mask a lane's column is `c` exactly when its index is the half's first column plus `c`. -/
theorem hits {lo hi : BitVec 32} (h : IsHalf lo hi) (v : Vec Ideal S16 .i32) (x : S16.Idx) (c : ℕ) (hc : c < 50048) :
    (inHalf (F := Ideal) lo hi v x = 1 ∧ c = (colOf (F := Ideal) lo hi v x).toNat) ↔ (v x : BitVec 32).toInt = lo.toInt + c := by
  have hcol : inHalf (F := Ideal) lo hi v x = 1 → colOf (F := Ideal) lo hi v x = (v x : BitVec 32) - lo := fun hm => if_pos hm
  have hb : lo.toInt = lo.toNat ∧ hi.toInt = lo.toNat + 50048 ∧ lo.toNat ≤ 50048 := by
    rcases h with ⟨rfl, rfl⟩ | ⟨rfl, rfl⟩ <;> decide
  obtain ⟨h1, h2, h3⟩ := hb
  have hi' := inHalf_iff lo hi v x
  generalize (v x : BitVec 32) = w at *
  have hw : w.toNat < 4294967296 := w.isLt
  constructor
  · rintro ⟨hm, hcc⟩
    rw [hcol hm] at hcc
    obtain ⟨a, b⟩ := hi'.mp hm
    rw [BitVec.toNat_sub] at hcc
    rw [h1] at a ⊢; rw [h2] at b
    rw [BitVec.toInt_eq_toNat_cond] at a b ⊢
    split at a <;> rename_i hlt <;> simp only [hlt, if_true, if_false] at * <;> omega
  · intro e
    have hm : inHalf (F := Ideal) lo hi v x = 1 := hi'.mpr (by rw [e]; omega)
    refine ⟨hm, ?_⟩
    rw [hcol hm, BitVec.toNat_sub]
    rw [h1] at e
    rw [BitVec.toInt_eq_toNat_cond] at e
    split at e <;> omega

/-- Update `i` if its index is column `g`, nothing otherwise. -/
def term (ix : S16384.Idx → BitVec 32) (sr : S16384.Idx → EReal) (g : ℤ) (i : ℕ) : EReal :=
  if (ix (place i)).toInt = g then sr (place i) else 0

theorem zeroE_eq : (zeroE (F := Ideal) : EReal) = 0 := by
  show Ideal.ofBits .f32 0#32 = 0
  simp [Ideal.ofBits, Ideal.ieee]

theorem lane_at16 (n : ℕ) (k : Fin 16) : lane n (at16 k) = place (16 * n + k.val) := rfl

/-- After `n` steps a column has taken every one of the first `16 n` updates that names it. -/
theorem rowAcc_eq {lo hi : BitVec 32} (h : IsHalf lo hi) (ix : S16384.Idx → BitVec 32) (sr : S16384.Idx → EReal) (j : S50048.Idx) :
    ∀ n : ℕ, (rowAcc (F := Ideal) lo hi h ix sr n j : EReal) = ∑ i ∈ Finset.range (16 * n), term ix sr (lo.toInt + (j 0).val) i
  | 0 => zeroE_eq
  | n + 1 => by
    have hj : (j 0).val < 50048 := (j 0).isLt
    rw [Nat.mul_succ, Finset.sum_range_add, ← rowAcc_eq h ix sr j n, Finset.sum_range (n := 16)]
    refine (store_apply (rowAcc (F := Ideal) lo hi h ix sr n) (colOf (F := Ideal) lo hi fun x => ix (lane n x)) (fun x => sr (lane n x))
      (inHalf (F := Ideal) lo hi fun x => ix (lane n x)) (colOk h fun x => ix (lane n x)) j).trans
      (congrArg (fun t : EReal => (rowAcc (F := Ideal) lo hi h ix sr n j : EReal) + t) (Finset.sum_congr rfl fun k _ => ?_))
    have e := hits h (fun x => ix (lane n x)) (at16 k) _ hj
    rw [lane_at16] at e
    unfold term
    rw [← lane_at16] at e ⊢
    exact if_congr e rfl rfl

/-- `x` at launch. -/
abbrev xE (m : (ℓ : Loc nD τ sig) → Buf (Elt Ideal) ℓ) (d : Dev nD) : S128x100000.Idx → EReal := m (xLoc d)

/-- A result element: `x`'s, and every update whose index is its column. -/
theorem total_eq (m : (ℓ : Loc nD τ sig) → Buf (Elt Ideal) ℓ) (d : Dev nD) (z : S128x100000.Idx) :
    (total (F := Ideal) m d z : EReal) = xE m d z
      + ∑ i ∈ Finset.range 16384, term (m (iLoc d)) (srcRow (F := Ideal) (m (sLoc d)) (z 0)) ((z 1).val : ℤ) i := by
  have hz : (z 1).val < 100000 := (z 1).isLt
  refine congrArg (fun t : EReal => xE m d z + t) ((rowAcc_eq _ _ _ _ 1024).trans ?_)
  have e : (loOf ((z 1).val / 50048)).toInt + (((z 1).val % 50048 : ℕ) : ℤ) = ((z 1).val : ℤ) := by
    unfold loOf
    split
    · rw [show (0#32 : BitVec 32).toInt = 0 by decide]; omega
    · rw [show (50048#32 : BitVec 32).toInt = 50048 by decide]; omega
  exact Finset.sum_congr rfl fun i _ => congrArg (fun g => term (m (iLoc d)) (srcRow (F := Ideal) (m (sLoc d)) (z 0)) g i) e

/-! ## The reference's scatter -/

section Ref

variable [Cert.ReferenceIdeal.Facts]

abbrev dims : ScatterDims S128x100000 ReferenceIdeal.S16384x1 S128x16384 :=
  Cert.ReferenceIdeal.scatter_S128x100000_S16384x1_S128x16384_0_1_1_1

/-- Update `(r, n)` lands at row `r`, in the column its index word names. -/
theorem lands (j : S128x16384.Idx) (idx : IVec ReferenceIdeal.S16384x1 32) (z : S128x100000.Idx) :
    dims.resultIdx? j idx = some z ↔ (j 0).val = (z 0).val ∧ (idx (ValueIdx.ix2 (j 1) 0)).toInt = ((z 1).val : ℤ) := by
  have s0 : dims.start j idx 0 = 0 := rfl
  have w0 : dims.window j 0 = (j 0).val := rfl
  have s1 : dims.start j idx 1 = (idx (ValueIdx.ix2 (j 1) 0)).toInt := by
    refine congrArg (fun y => (idx y).toInt) (funext fun b => ?_)
    match b with
    | ⟨0, _⟩ => rfl
    | ⟨1, _⟩ => rfl
  have w1 : dims.window j 1 = 0 := rfl
  rw [Routing.resultIdx?_eq_some]
  constructor
  · intro h
    have h0 := h 0; have h1 := h 1
    rw [s0, w0] at h0; rw [s1, w1] at h1
    exact ⟨by omega, by omega⟩
  · rintro ⟨h0, h1⟩ a
    match a with
    | ⟨0, _⟩ => exact (by rw [s0, w0]; omega : dims.start j idx 0 + (dims.window j 0 : ℤ) = ((z 0).val : ℤ))
    | ⟨1, _⟩ => exact (by rw [s1, w1]; omega : dims.start j idx 1 + (dims.window j 1 : ℤ) = ((z 1).val : ℤ))

/-- The scatter read at one element. -/
theorem scatter_eq (x : S128x100000.Idx → EReal) (idx : IVec ReferenceIdeal.S16384x1 32) (ix : S16384.Idx → BitVec 32)
    (src : S128x16384.Idx → EReal) (hix : ∀ i : ℕ, i < 16384 → ∀ n : Fin 16384, n.val = i → idx (ValueIdx.ix2 n 0) = ix (place i))
    (z : S128x100000.Idx) :
    Ideal.hostScatterAdd dims x idx src z
      = x z + ∑ i ∈ Finset.range 16384, term ix (srcRow (F := Ideal) src (z 0)) ((z 1).val : ℤ) i := by
  refine congrArg (fun t : EReal => x z + t) ?_
  unfold term
  rw [← Finset.sum_filter]
  refine Finset.sum_nbij' (fun j => (j 1).val) (fun i => srcAt (z 0) (place i)) ?_ ?_ ?_ ?_ ?_
  · intro j hj
    obtain ⟨-, h1⟩ := (lands j idx z).mp (Finset.mem_filter.mp hj).2
    have hlt : (j 1).val < 16384 := (j 1).isLt
    exact Finset.mem_filter.mpr ⟨Finset.mem_range.mpr hlt, by rw [← hix _ hlt (j 1) rfl]; exact h1⟩
  · intro i hi
    obtain ⟨hr, h1⟩ := Finset.mem_filter.mp hi
    have hlt := Finset.mem_range.mp hr
    refine Finset.mem_filter.mpr ⟨Finset.mem_univ _, (lands _ idx z).mpr ⟨rfl, ?_⟩⟩
    exact (congrArg BitVec.toInt (hix i hlt _ (place_val i hlt 0))).trans h1
  · intro j hj
    obtain ⟨h0, -⟩ := (lands j idx z).mp (Finset.mem_filter.mp hj).2
    have hlt : (j 1).val < 16384 := (j 1).isLt
    funext a
    match a with
    | ⟨0, _⟩ => exact (Fin.ext h0).symm
    | ⟨1, _⟩ => exact Fin.ext (place_val _ hlt 0)
  · intro i hi
    exact place_val i (Finset.mem_range.mp (Finset.mem_filter.mp hi).1) 0
  · intro j hj
    obtain ⟨h0, -⟩ := (lands j idx z).mp (Finset.mem_filter.mp hj).2
    have hlt : (j 1).val < 16384 := (j 1).isLt
    refine congrArg src (funext fun a => ?_)
    match a with
    | ⟨0, _⟩ => exact Fin.ext h0
    | ⟨1, _⟩ => exact (Fin.ext (place_val _ hlt 0)).symm

end Ref

end Cert.Proof.Delta

end
-- ==== Proof.lean ====
/-
  The certificate's claims, from the program's run (Proof/Run.lean) and the value of its result over the extended
  reals (Proof/Value.lean).
-/
module

public import proofs.«01_k».proof.Defs
public import proofs.«01_k».proof.Proof.Gen.Kernel
public import proofs.«01_k».proof.Proof.Run
public import proofs.«01_k».proof.Proof.Value

@[expose] public section

noncomputable section

namespace Cert.Proof

open Idealize.ShloMosaic Idealize.SL.Sem
open Cert.Proof.Delta

/-- The precondition's one side condition. -/
instance preFacts : Cert.Pre_indices_not_negative.Facts := ⟨by decide⟩

/-! ## The programs run -/

/-- The printed program is the ideal one's text: the bodies agree label by label, -/
theorem defs₀_eq : Cert.Kernel.defs₀ (F := Bits) = Cert.KernelIdeal.defs₀ (F := Bits) := by
  funext p ℓ a
  match p, ℓ, a with
  | .scVector _ _, 0, _ => rfl
  | .scVector _ _, 1, _ => rfl
  | .tc, 0, _ => rfl
  | .tc, 1, (_, _) => rfl
  | .scScalar _, 0, _ => rfl
  | .scScalar _, 1, _ => rfl

/-- and so do the body tables. -/
theorem defs_eq : Cert.Kernel.defs (F := Bits) = Cert.KernelIdeal.defs (F := Bits) :=
  (show Cert.Kernel.defs (F := Bits) = Cert.KernelIdeal.sc.defs (Pipeline.defs Cert.KernelIdeal.pcfgs (Cert.Kernel.defs₀ (F := Bits))) from rfl).trans
    (congrArg (fun D => Cert.KernelIdeal.sc.defs (Pipeline.defs Cert.KernelIdeal.pcfgs D)) defs₀_eq)

/-- Its run is the same run, at the machine's floats. -/
theorem frame_kernel : Cert.quiescent_Kernel := by
  intro m ρ _
  have h : θ_run (Cert.Kernel.defs (F := Bits)) (Cert.Kernel.threads (F := Bits)) ⟨m, fun _ => 0, ρ⟩ (QC (F := Bits) m) :=
    (congrArg (fun D => θ_run D (Cert.KernelIdeal.threads (F := Bits)) ⟨m, fun _ => 0, ρ⟩ (QC (F := Bits) m)) defs_eq).mpr (run_main (F := Bits) m ρ)
  exact (θ_run Cert.Kernel.defs _ _).mono (fun _ h => ⟨fun c => (h.1 c).2, h.2⟩) h

theorem frame_ideal : Cert.quiescent_KernelIdeal := fun m ρ _ =>
  (θ_run Cert.KernelIdeal.defs _ _).mono (fun _ h => ⟨fun c => (h.1 c).2, h.2⟩) (run_main (F := Ideal) m ρ)

/-- The reference has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The results agree -/

/-- The reference's index words, where no index is negative, are the indices. -/
theorem words_eq (ix : IVec Cert.ReferenceIdeal.S16384 32) (h : ∀ y, 0 ≤ (ix y).toInt) (n : Fin 16384) :
    broadcastInDim Cert.ReferenceIdeal.S16384x1 ![0] Cert.ReferenceIdeal.Facts₀.bcast_S16384_S16384x1_0
      (select (cmpi .slt ix (broadcastInDim Cert.ReferenceIdeal.S16384 ![] Cert.ReferenceIdeal.Facts₀.bcast_S_S16384 (constantI Cert.ReferenceIdeal.S_ 32 0#32)))
        (addi ix (broadcastInDim Cert.ReferenceIdeal.S16384 ![] Cert.ReferenceIdeal.Facts₀.bcast_S_S16384 (constantI Cert.ReferenceIdeal.S_ 32 100000#32))) ix)
      (ValueIdx.ix2 n 0) = ix (place n.val) := by
  have e : ∀ y, select (cmpi .slt ix (broadcastInDim Cert.ReferenceIdeal.S16384 ![] Cert.ReferenceIdeal.Facts₀.bcast_S_S16384 (constantI Cert.ReferenceIdeal.S_ 32 0#32)))
      (addi ix (broadcastInDim Cert.ReferenceIdeal.S16384 ![] Cert.ReferenceIdeal.Facts₀.bcast_S_S16384 (constantI Cert.ReferenceIdeal.S_ 32 100000#32))) ix y = ix y := by
    intro y
    refine if_neg fun q => ?_
    have q' : BitVec.ofBool ((ix y).slt 0#32) = 1#1 := q
    have hn : (ix y).slt 0#32 = false := by
      rw [Bool.eq_false_iff]
      intro ht
      have := BitVec.slt_iff_toInt_lt.mp ht
      have h0 : (0#32 : BitVec 32).toInt = 0 := by decide
      have := h y
      omega
    rw [hn] at q'
    exact absurd q' (by decide)
  unfold broadcastInDim
  refine (e _).trans (congrArg ix (funext fun a => ?_))
  obtain rfl : a = 0 := Subsingleton.elim _ _
  exact Fin.ext (place_val n.val n.isLt 0).symm

/-- What the precondition says of an index. -/
theorem not_negative (x : FVec Ideal Cert.Pre_indices_not_negative.S128x100000 .f32) (ix : IVec Cert.Pre_indices_not_negative.S16384 32)
    (s : FVec Ideal Cert.Pre_indices_not_negative.S128x16384 .f32)
    (h : Cert.Pre_indices_not_negative.fn (F := Ideal) x ix s = fun _ => 1#1) (y) : 0 ≤ (ix y).toInt := by
  have q : BitVec.ofBool ((0#32 : BitVec 32).sle (ix y)) = 1#1 := congrFun h y
  have e : ∀ b : Bool, BitVec.ofBool b = 1#1 → b = true := by decide
  have := BitVec.sle_iff_toInt_le.mp (e _ q)
  have h0 : (0#32 : BitVec 32).toInt = 0 := by decide
  omega

theorem algebraic : Cert.algebraic_KernelIdeal_ReferenceIdeal_pre_indices_not_negative := by
  intro m ρ m' ρ' hpre hag
  refine ⟨fun c => total (F := Ideal) m c, (θ_run Cert.KernelIdeal.defs _ _).mono (fun _ h c => h.1 c) (run_main (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨h0, h1, h2⟩ := hag c
  rw [h0, h1, h2]
  funext z
  refine Eq.trans ?_ (total_eq m c z).symm
  refine scatter_eq _ _ (m (iLoc c)) _ (fun i hi n hn => ?_) z
  subst hn
  exact words_eq _ (not_negative _ _ _ (hpre c)) n

theorem claim : Cert.Claim :=
  ⟨Cert.Kernel.Gen.facts, Cert.KernelIdeal.Gen.facts, Cert.ReferenceIdeal.Gen.facts, preFacts,
    frame_kernel, frame_ideal, fun m ρ _ => frame_ideal m ρ trivial, frame_reference, fun m ρ _ => frame_reference m ρ trivial, trivial, algebraic⟩

end Cert.Proof

end
